-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_inv_sigma" .f32 0xC1200000#32 ((-134217728 / 13421773 : ℝ) : EReal)
  ∧ IdealRules.named_const.Statement Cert.KernelIdeal.κ "inv_sigma" .f32 0x41200000#32 ((134217728 / 13421773 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x128 : Shape := ⟨2, ![4096, 128]⟩
abbrev S4096 : Shape := ⟨1, ![4096]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096 : S_.BroadcastsInDim S4096 (![] : Fin 0 → Fin S4096.rank)
  reducesTo_S4096_S_d0 : S4096.ReducesTo [0] S_
  reducesTo_S128_S_d0 : S128.ReducesTo [0] S_

variable [Facts]

def fn {F : FTy → Type} [FloatOps F] (main_arg0 : FVec F S4096x128 .f32) (main_arg1 : FVec F S4096 .f32) (main_arg2 : IVec S4096 32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .eq main_arg2 main_v4
  let main_c_1 : IVec S_ 32 := constantI S_ 32 1#32
  let main_v6 : IVec S4096 32 := broadcastInDim S4096 ![] bcast_S_S4096 main_c_1
  let main_v7 : IVec S4096 1 := cmpi .eq main_arg2 main_v6
  let main_v8 : IVec S4096 1 := ori main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_v11 : IVec S128 32 := iotaInDim S128 32 0
  let main_v12 : FVec F S128 .f32 := sitofp .f32 main_v11
  let main_v13 : IVec S128 1 := cmpf .oeq main_arg3 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  main_v15
-- ==== Kernel.lean ====
abbrev S4096x128 : Shape := ⟨2, ![4096, 128]⟩
abbrev S4096 : Shape := ⟨1, ![4096]⟩
abbrev S128 : Shape := ⟨1, ![128]⟩
abbrev S4096x1 : Shape := ⟨2, ![4096, 1]⟩
abbrev S1x4096 : Shape := ⟨2, ![1, 4096]⟩
abbrev S1x128 : Shape := ⟨2, ![1, 128]⟩
abbrev S128x1 : Shape := ⟨2, ![128, 1]⟩
abbrev S1x1 : Shape := ⟨2, ![1, 1]⟩
abbrev S128x128 : Shape := ⟨2, ![128, 128]⟩
abbrev S128x4096 : Shape := ⟨2, ![128, 4096]⟩
abbrev S1 : Shape := ⟨1, ![1]⟩
abbrev S1024x1 : Shape := ⟨2, ![1024, 1]⟩
abbrev S1024x4096 : Shape := ⟨2, ![1024, 4096]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096, .f32⟩
  | .hbm, ⟨2, _⟩ => ⟨S4096, .i32⟩
  | .hbm, ⟨3, _⟩ => ⟨S128, .f32⟩
  | .hbm, ⟨4, _⟩ => ⟨S4096x1, .f32⟩
  | .hbm, ⟨5, _⟩ => ⟨S1x4096, .f32⟩
  | .hbm, ⟨6, _⟩ => ⟨S4096x1, .i32⟩
  | .hbm, ⟨7, _⟩ => ⟨S1x128, .f32⟩
  | .hbm, ⟨8, _⟩ => ⟨S128x1, .f32⟩
  | .hbm, ⟨9, _⟩ => ⟨S1x1, .f32⟩
  | .local _ .vmem, ⟨0, _⟩ => ⟨S4096x128, .f32⟩
  | .local _ .vmem, ⟨1, _⟩ => ⟨S4096x1, .f32⟩
  | .local _ .vmem, ⟨2, _⟩ => ⟨S1x4096, .f32⟩
  | .local _ .vmem, ⟨3, _⟩ => ⟨S4096x1, .i32⟩
  | .local _ .vmem, ⟨4, _⟩ => ⟨S1x128, .f32⟩
  | .local _ .vmem, ⟨5, _⟩ => ⟨S128x1, .f32⟩
  | .local _ .vmem, ⟨6, _⟩ => ⟨S1x1, .f32⟩
  | .local _ .vmem, ⟨7, _⟩ => ⟨S1x4096, .f32⟩
  | .local _ .vmem, ⟨8, _⟩ => ⟨S4096x1, .f32⟩
  | .local _ .vmem, ⟨9, _⟩ => ⟨S4096x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def k0_cond2 (i : grid0.Coords) : BitVec 1 :=
  let arg0 : BitVec 32 := BitVec.ofNat 32 (i 0).val
  let c3_i32 : BitVec 32 := 3#32
  let v60 : BitVec 1 := Scalar.cmpi .eq arg0 c3_i32
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_sigma" => some ((134217728 / 13421773 : ℝ) : EReal)
  | "neg_inv_sigma" => some ((-134217728 / 13421773 : ℝ) : EReal)
  | _ => none
-- ==== ReferenceIdeal.lean ====
abbrev S4096x128 : Shape := ⟨2, ![4096, 128]⟩
abbrev S4096 : Shape := ⟨1, ![4096]⟩
abbrev S128 : Shape := ⟨1, ![128]⟩
abbrev S1x128 : Shape := ⟨2, ![1, 128]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x4096 : Shape := ⟨2, ![4096, 4096]⟩
abbrev S1x4096 : Shape := ⟨2, ![1, 4096]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S4096x128, .f32⟩
  | 1 => ⟨S4096, .f32⟩
  | 2 => ⟨S4096, .i32⟩
  | 3 => ⟨S128, .f32⟩
  | 4 => ⟨S1x128, .f32⟩
  | 5 => ⟨S4096x1, .f32⟩
  | 6 => ⟨S4096x128, .f32⟩
  | 7 => ⟨S4096x128, .f32⟩
  | 8 => ⟨S4096x128, .i1⟩
  | 9 => ⟨S4096x128, .i32⟩
  | 10 => ⟨S_, .i32⟩
  | 11 => ⟨S4096, .i32⟩
  | 12 => ⟨S_, .i32⟩
  | 13 => ⟨S4096, .i32⟩
  | 14 => ⟨S4096, .i32⟩
  | 15 => ⟨S_, .i32⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096x128, .f32⟩
  | 24 => ⟨S_, .f32⟩
  | 25 => ⟨S_, .f32⟩
  | 26 => ⟨S4096x128, .f32⟩
  | 27 => ⟨S4096x128, .f32⟩
  | 28 => ⟨S4096x1, .i32⟩
  | 29 => ⟨S_, .i32⟩
  | 30 => ⟨S4096x1, .i32⟩
  | 31 => ⟨S4096x1, .i1⟩
  | 32 => ⟨S_, .i32⟩
  | 33 => ⟨S4096x1, .i32⟩
  | 34 => ⟨S4096x1, .i32⟩
  | 35 => ⟨S4096x1, .i32⟩
  | 36 => ⟨S4096x1x1, .i32⟩
  | 37 => ⟨S1, .i32⟩
  | 38 => ⟨S_, .i32⟩
  | 39 => ⟨S4096x1x1, .i32⟩
  | 40 => ⟨S4096x1x1, .i1⟩
  | 41 => ⟨S1x1x1, .i32⟩
  | 42 => ⟨S4096x1x1, .i32⟩
  | 43 => ⟨S4096x1x1, .i1⟩
  | 44 => ⟨S4096x1x1, .i1⟩
  | 45 => ⟨S_, .i1⟩
  | 46 => ⟨S4096x1, .i1⟩
  | 47 => ⟨S4096x1, .f32⟩
  | 48 => ⟨S_, .f32⟩
  | 49 => ⟨S4096x1, .f32⟩
  | 50 => ⟨S4096x1, .f32⟩
  | 51 => ⟨S4096, .f32⟩
  | 52 => ⟨S4096x1, .i32⟩
  | 53 => ⟨S_, .i32⟩
  | 54 => ⟨S4096x1, .i32⟩
  | 55 => ⟨S4096x1, .i1⟩
  | 56 => ⟨S_, .i32⟩
  | 57 => ⟨S4096x1, .i32⟩
  | 58 => ⟨S4096x1, .i32⟩
  | 59 => ⟨S4096x1, .i32⟩
  | 60 => ⟨S4096x1x1, .i32⟩
  | 61 => ⟨S1, .i32⟩
  | 62 => ⟨S_, .i32⟩
  | 63 => ⟨S4096x1x1, .i32⟩
  | 64 => ⟨S4096x1x1, .i1⟩
  | 65 => ⟨S1x1x1, .i32⟩
  | 66 => ⟨S4096x1x1, .i32⟩
  | 67 => ⟨S4096x1x1, .i1⟩
  | 68 => ⟨S4096x1x1, .i1⟩
  | 69 => ⟨S_, .i1⟩
  | 70 => ⟨S4096x1, .i1⟩
  | 71 => ⟨S4096x1, .f32⟩
  | 72 => ⟨S_, .f32⟩
  | 73 => ⟨S4096x1, .f32⟩
  | 74 => ⟨S4096x1, .f32⟩
  | 75 => ⟨S4096, .f32⟩
  | 76 => ⟨S_, .i32⟩
  | 77 => ⟨S4096, .i32⟩
  | 78 => ⟨S4096, .i1⟩
  | 79 => ⟨S_, .f32⟩
  | 80 => ⟨S4096, .f32⟩
  | 81 => ⟨S4096, .f32⟩
  | 82 => ⟨S4096, .f32⟩
  | 83 => ⟨S4096, .f32⟩
  | 84 => ⟨S_, .f32⟩
  | 85 => ⟨S4096, .f32⟩
  | 86 => ⟨S4096, .f32⟩
  | 87 => ⟨S4096, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096x128, .f32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S4096x4096, .f32⟩
  | 106 => ⟨S4096x1, .i32⟩
  | 107 => ⟨S_, .i32⟩
  | 108 => ⟨S4096x1, .i32⟩
  | 109 => ⟨S4096x1, .i1⟩
  | 110 => ⟨S_, .i32⟩
  | 111 => ⟨S4096x1, .i32⟩
  | 112 => ⟨S4096x1, .i32⟩
  | 113 => ⟨S4096x1, .i32⟩
  | 114 => ⟨S4096x1x1, .i32⟩
  | 115 => ⟨S1, .i32⟩
  | 116 => ⟨S_, .i32⟩
  | 117 => ⟨S4096x1x1, .i32⟩
  | 118 => ⟨S4096x1x1, .i1⟩
  | 119 => ⟨S1x1x1, .i32⟩
  | 120 => ⟨S4096x1x1, .i32⟩
  | 121 => ⟨S4096x1x1, .i1⟩
  | 122 => ⟨S4096x1x1, .i1⟩
  | 123 => ⟨S_, .i1⟩
  | 124 => ⟨S4096x1, .i1⟩
  | 125 => ⟨S4096x1, .f32⟩
  | 126 => ⟨S_, .f32⟩
  | 127 => ⟨S4096x1, .f32⟩
  | _ => ⟨S4096x128, .f32⟩

abbrev hbmTy0_1 (i : Nat) : BufTy := match i % 128 with
  | 0 => ⟨S4096x1, .f32⟩
  | 1 => ⟨S4096, .f32⟩
  | 2 => ⟨S1x4096, .f32⟩
  | 3 => ⟨S4096x1, .f32⟩
  | 4 => ⟨S4096x4096, .f32⟩
  | 5 => ⟨S4096x4096, .f32⟩
  | 6 => ⟨S4096x4096, .i1⟩
  | 7 => ⟨S4096x4096, .f32⟩
  | 8 => ⟨S4096x1, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x4096, .i32⟩
  | 16 => ⟨S_, .i32⟩
  | 17 => ⟨S4096, .i32⟩
  | 18 => ⟨S_, .f32⟩
  | 19 => ⟨S_, .f32⟩
  | 20 => ⟨S4096x4096, .f32⟩
  | 21 => ⟨S4096x4096, .f32⟩
  | 22 => ⟨S_, .f32⟩
  | 23 => ⟨S4096, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i1⟩
  | 30 => ⟨S4096, .i1⟩
  | 31 => ⟨S_, .i32⟩
  | 32 => ⟨S4096, .i32⟩
  | 33 => ⟨S4096, .i32⟩
  | 34 => ⟨S4096, .f32⟩
  | 35 => ⟨S4096, .f32⟩
  | 36 => ⟨S_, .f32⟩
  | 37 => ⟨S_, .f32⟩
  | 38 => ⟨S4096, .f32⟩
  | 39 => ⟨S4096, .f32⟩
  | 40 => ⟨S4096, .i32⟩
  | 41 => ⟨S_, .i32⟩
  | 42 => ⟨S_, .i32⟩
  | 43 => ⟨S_, .f32⟩
  | 44 => ⟨S_, .f32⟩
  | 45 => ⟨S_, .i32⟩
  | 46 => ⟨S_, .i32⟩
  | 47 => ⟨S_, .i32⟩
  | 48 => ⟨S_, .i1⟩
  | 49 => ⟨S_, .i32⟩
  | 50 => ⟨S_, .i1⟩
  | 51 => ⟨S_, .i1⟩
  | 52 => ⟨S_, .f32⟩
  | 53 => ⟨S_, .f32⟩
  | 54 => ⟨S_, .i32⟩
  | 55 => ⟨S_, .i32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S1x1, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_call1_call0_cst : Ref sig .tc := ⟨.hbm, 24, rfl⟩
abbrev main_call1_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v17 : Ref sig .tc := ⟨.hbm, 74, rfl⟩
abbrev main_v18 : Ref sig .tc := ⟨.hbm, 75, rfl⟩
abbrev main_c_3 : Ref sig .tc := ⟨.hbm, 76, rfl⟩
abbrev main_v19 : Ref sig .tc := ⟨.hbm, 77, rfl⟩
abbrev main_v20 : Ref sig .tc := ⟨.hbm, 78, rfl⟩
abbrev main_cst : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_4 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_5 : Ref sig .tc := ⟨.hbm, 90, rfl⟩
abbrev main_v30 : Ref sig .tc := ⟨.hbm, 91, rfl⟩
abbrev main_cst_6 : Ref sig .tc := ⟨.hbm, 92, rfl⟩
abbrev main_v31 : Ref sig .tc := ⟨.hbm, 93, rfl⟩
abbrev main_call5_call0_cst : Ref sig .tc := ⟨.hbm, 94, rfl⟩
abbrev main_call5_call0_v0 : Ref sig .tc := ⟨.hbm, 95, rfl⟩
abbrev main_v32 : Ref sig .tc := ⟨.hbm, 96, rfl⟩
abbrev main_c_7 : Ref sig .tc := ⟨.hbm, 97, rfl⟩
abbrev main_v33 : Ref sig .tc := ⟨.hbm, 98, rfl⟩
abbrev main_v34 : Ref sig .tc := ⟨.hbm, 99, rfl⟩
abbrev main_c_8 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call6_c : Ref sig .tc := ⟨.hbm, 107, rfl⟩
abbrev main_call6_v0 : Ref sig .tc := ⟨.hbm, 108, rfl⟩
abbrev main_call6_v1 : Ref sig .tc := ⟨.hbm, 109, rfl⟩
abbrev main_call6_c_0 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_c_1 : Ref sig .tc := ⟨.hbm, 115, rfl⟩
abbrev main_call6_c_2 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_3 : Ref sig .tc := ⟨.hbm, 123, rfl⟩
abbrev main_call6_v12 : Ref sig .tc := ⟨.hbm, 124, rfl⟩
abbrev main_call6_v13 : Ref sig .tc := ⟨.hbm, 125, rfl⟩
abbrev main_call6_cst : Ref sig .tc := ⟨.hbm, 126, rfl⟩
abbrev main_call6_v14 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_cst_9 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_c_10 : Ref sig .tc := ⟨.hbm, 144, rfl⟩
abbrev main_v56 : Ref sig .tc := ⟨.hbm, 145, rfl⟩
abbrev main_cst_11 : Ref sig .tc := ⟨.hbm, 146, rfl⟩
abbrev main_call7_v0 : Ref sig .tc := ⟨.hbm, 147, rfl⟩
abbrev main_call7_v1 : Ref sig .tc := ⟨.hbm, 148, rfl⟩
abbrev main_v57 : Ref sig .tc := ⟨.hbm, 149, rfl⟩
abbrev main_cst_12 : Ref sig .tc := ⟨.hbm, 150, rfl⟩
abbrev main_v58 : Ref sig .tc := ⟨.hbm, 151, rfl⟩
abbrev main_c_13 : Ref sig .tc := ⟨.hbm, 152, rfl⟩
abbrev main_v59 : Ref sig .tc := ⟨.hbm, 153, rfl⟩
abbrev main_v60 : Ref sig .tc := ⟨.hbm, 154, rfl⟩
abbrev main_c_14 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_c_15 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_cst_16 : Ref sig .tc := ⟨.hbm, 164, rfl⟩
abbrev main_call8_v0 : Ref sig .tc := ⟨.hbm, 165, rfl⟩
abbrev main_call8_v1 : Ref sig .tc := ⟨.hbm, 166, rfl⟩
abbrev main_v68 : Ref sig .tc := ⟨.hbm, 167, rfl⟩
abbrev main_v69 : Ref sig .tc := ⟨.hbm, 168, rfl⟩
abbrev main_c_17 : Ref sig .tc := ⟨.hbm, 169, rfl⟩
abbrev main_v70 : Ref sig .tc := ⟨.hbm, 170, rfl⟩
abbrev main_cst_18 : Ref sig .tc := ⟨.hbm, 171, rfl⟩
abbrev main_v71 : Ref sig .tc := ⟨.hbm, 172, rfl⟩
abbrev main_c_19 : Ref sig .tc := ⟨.hbm, 173, rfl⟩
abbrev main_v72 : Ref sig .tc := ⟨.hbm, 174, rfl⟩
abbrev main_c_20 : Ref sig .tc := ⟨.hbm, 175, rfl⟩
abbrev main_v73 : Ref sig .tc := ⟨.hbm, 176, rfl⟩
abbrev main_c_21 : Ref sig .tc := ⟨.hbm, 177, rfl⟩
abbrev main_v74 : Ref sig .tc := ⟨.hbm, 178, rfl⟩
abbrev main_v75 : Ref sig .tc := ⟨.hbm, 179, rfl⟩
abbrev main_cst_22 : Ref sig .tc := ⟨.hbm, 180, rfl⟩
abbrev main_v76 : Ref sig .tc := ⟨.hbm, 181, rfl⟩
abbrev main_c_23 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_cst_24 : Ref sig .tc := ⟨.hbm, 186, rfl⟩
abbrev main_call9_v0 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩

abbrev nD : Nat := 1
abbrev τ : Topo := Topo.v7x

variable {F : FTy → Type} [FloatOps F]
-- ==== Proof.Ranking.lean ====
/- The survival-analysis loss, written over plain finite families of numbers, and the identities of real arithmetic
   that turn the pairwise sum of its ranking term into sums over bins. Nothing here is about a program.

   `p i c` is the probability that subject `i` has its event in bin `c` (128 bins), `T i` is the subject's observed time,
   an extended real, and `b i` is the bin of that time. -/
module

public import Idealize.ShloMosaic.PureOps.Ideal
public import Idealize.ShloMosaic.PureOps.Ideal.Laws
public import Mathlib.Algebra.BigOperators.Ring.Finset
public import Mathlib.Data.EReal.Operations
public import Mathlib.Tactic.Linarith
public import Mathlib.Tactic.Ring

@[expose] public section

noncomputable section

namespace Cert.Ranking

open Idealize.ShloMosaic

/-! ## The bin of a time -/

/-- How many of the bin edges 0, 1, …, 127 lie below the time `t`. -/
def below (t : EReal) : ℕ := (Finset.univ.filter fun k : Fin 128 => (((k : ℕ) : ℝ) : EReal) < t).card

theorem below_le (t : EReal) : below t ≤ 128 := by
  unfold below
  exact (Finset.card_le_univ _).trans (by simp)

/-- The bin of the time `t`: the number of edges below it, less one, and never less than 0. -/
def binOf (t : EReal) : Fin 128 := ⟨below t - 1, by have := below_le t; omega⟩

theorem binOf_mono {s t : EReal} (h : s ≤ t) : binOf s ≤ binOf t := by
  have : below s ≤ below t := Finset.card_le_card fun k hk => by
    simp only [Finset.mem_filter, Finset.mem_univ, true_and] at hk ⊢
    exact lt_of_lt_of_le hk h
  show below s - 1 ≤ below t - 1
  omega

/-- Of the numbers below 128, those below `n`. -/
theorem card_lt (n : ℕ) : (Finset.univ.filter fun k : Fin 128 => (k : ℕ) < n).card = min n 128 := by
  have h : (Finset.univ.filter fun k : Fin 128 => (k : ℕ) < n).map Fin.valEmbedding = Finset.range (min n 128) := by
    ext a
    simp only [Finset.mem_map, Finset.mem_filter, Finset.mem_univ, true_and, Fin.valEmbedding_apply, Finset.mem_range, lt_min_iff]
    exact ⟨fun ⟨k, hk, e⟩ => e ▸ ⟨hk, k.isLt⟩, fun ⟨h1, h2⟩ => ⟨⟨a, h2⟩, h1, rfl⟩⟩
  rw [← Finset.card_map Fin.valEmbedding, h, Finset.card_range]

/-- The bin as the time rounded up, less one, clipped to 0 … 127. -/
theorem clip_ceil (t : EReal) :
    min ((127 : ℝ) : EReal) (max 0 (Ideal.liftRound Int.ceil t - 1)) = (((binOf t : ℕ) : ℝ) : EReal) := by
  induction t with
  | bot =>
    have h : below ⊥ = 0 := by simp [below]
    have e : Ideal.liftRound Int.ceil ⊥ - 1 = ⊥ := rfl
    rw [e, max_eq_left bot_le, min_eq_right (by exact_mod_cast (by norm_num : (0 : ℝ) ≤ 127))]
    simp [binOf, h]
  | top =>
    have h : below ⊤ = 128 := by
      unfold below
      rw [Finset.filter_true_of_mem fun k _ => EReal.coe_lt_top _]
      simp
    have e : Ideal.liftRound Int.ceil ⊤ - 1 = ⊤ := rfl
    rw [e, max_eq_right le_top, min_eq_left le_top]
    simp [binOf, h]
  | coe r =>
    have h : below (r : EReal) = min ⌈r⌉.toNat 128 := by
      rw [← card_lt]
      unfold below
      congr 1
      ext k
      simp only [Finset.mem_filter, Finset.mem_univ, true_and, EReal.coe_lt_coe_iff]
      rw [← Int.cast_natCast, ← Int.lt_ceil]
      omega
    have e : Ideal.liftRound Int.ceil (r : EReal) = ((⌈r⌉ : ℝ) : EReal) := rfl
    rw [e, ← EReal.coe_one, ← EReal.coe_sub, ← EReal.coe_zero, ← EReal.coe_strictMono.monotone.map_max, ← EReal.coe_strictMono.monotone.map_min]
    congr 1
    have hc : ((127 : ℝ) ⊓ (0 ⊔ ((⌈r⌉ : ℝ) - 1))) = ((min 127 (max 0 (⌈r⌉ - 1)) : ℤ) : ℝ) := by push_cast; rfl
    rw [hc, ← Int.cast_natCast]
    congr 1
    show _ = ((below (r : EReal) - 1 : ℕ) : ℤ)
    rw [h]
    omega

/-! ## Sums over bins -/

variable {n : ℕ}

/-- The cumulative distribution: the mass of the bins up to and including `c`. -/
def cdf (p : Fin n → Fin 128 → ℝ) (i : Fin n) (c : Fin 128) : ℝ := ∑ k, if k ≤ c then p i k else 0

/-- The mass of the bins from `c` on. -/
def tail (p : Fin n → Fin 128 → ℝ) (i : Fin n) (c : Fin 128) : ℝ := ∑ k, if c ≤ k then p i k else 0

/-- The whole mass, less the mass up to and including a bin, plus that bin's own, is the mass from the bin on. -/
theorem tail_eq (p : Fin n → Fin 128 → ℝ) (i : Fin n) (c : Fin 128) : cdf p i 127 - cdf p i c + p i c = tail p i c := by
  have h1 : cdf p i 127 = ∑ k, p i k := Finset.sum_congr rfl fun k _ => if_pos (by omega)
  have h2 : p i c = ∑ k, if k = c then p i k else 0 := by simp
  rw [h1, h2, cdf, tail, ← Finset.sum_sub_distrib, ← Finset.sum_add_distrib]
  refine Finset.sum_congr rfl fun k _ => ?_
  rcases lt_trichotomy k c with h | h | h
  · simp [h.le, h.ne, not_le.2 h]
  · simp [h]
  · simp [h.le, h.ne', not_le.2 h]

variable (p : Fin n → Fin 128 → ℝ) (T : Fin n → EReal) (b : Fin n → Fin 128) (s : ℝ)

/-- Subject `i`'s ranking term: over the subjects whose time is later, how far their distribution at `i`'s bin is
    above `i`'s own, exponentiated (`s` is the reciprocal of the smoothing width). -/
def pairSum (i : Fin n) : ℝ :=
  ∑ j, if T i < T j then Real.exp ((cdf p j (b i) - cdf p i (b i)) * s) else 0

/-- What the later bins contribute at bin `c`. -/
def laterBins (c : Fin 128) : ℝ := ∑ j, if c < b j then Real.exp (cdf p j c * s) else 0

/-- What the bins up to `c` contribute. -/
def upToBin (c : Fin 128) : ℝ := ∑ j, if b j ≤ c then Real.exp (cdf p j (b j) * s) else 0

/-- What the subjects whose time is not later than `i`'s contribute. -/
def notLater (i : Fin n) : ℝ := ∑ j, if T j ≤ T i then Real.exp (cdf p j (b j) * s) else 0

/-- The ranking term from sums over bins: everything in a later bin at this bin's distribution, everything in bins up to
    this one, less the subjects that are not later. A later subject in the same bin is in the second sum with just the
    value it should have. -/
theorem pairSum_eq (hb : ∀ i j, T i ≤ T j → b i ≤ b j) (i : Fin n) :
    (laterBins p b s (b i) + upToBin p b s (b i) - notLater p T b s i) * Real.exp (cdf p i (b i) * -s) = pairSum p T b s i := by
  unfold laterBins upToBin notLater pairSum
  rw [← Finset.sum_add_distrib, ← Finset.sum_sub_distrib, Finset.sum_mul]
  refine Finset.sum_congr rfl fun j _ => ?_
  have split : Real.exp ((cdf p j (b i) - cdf p i (b i)) * s)
      = Real.exp (cdf p j (b i) * s) * Real.exp (cdf p i (b i) * -s) := by
    rw [← Real.exp_add]; congr 1; ring
  rcases le_or_gt (T j) (T i) with h | h
  · simp [h, not_lt.2 h, hb _ _ h, not_lt.2 (hb _ _ h)]
  · rcases (hb _ _ h.le).lt_or_eq with e | e
    · simp [h, not_le.2 h, e, not_le.2 e, split]
    · rw [split]; simp [h, not_le.2 h, ← e]

/-- A sum over bins against an indicator of one bin picks that bin's entry. -/
theorem pick (f : Fin 128 → ℝ) (c : Fin 128) : ∑ k, (if k = c then (1 : ℝ) else 0) * f k = f c := by simp

/-- The later bins' contribution as three products of matrices: subjects gathered by bin, bins accumulated from above,
    and the row and the column of `i`'s bin picked. -/
theorem laterBins_eq (w : Fin n → Fin 128 → ℝ) (c : Fin 128) :
    ∑ k, (∑ a, (if a = c then (1 : ℝ) else 0)
        * ∑ d, (if a < d then (1 : ℝ) else 0) * ∑ j, (if d = b j then (1 : ℝ) else 0) * w j k)
      * (if k = c then (1 : ℝ) else 0)
    = ∑ j, if c < b j then w j c else 0 := by
  have h1 : ∀ k, (∑ a, (if a = c then (1 : ℝ) else 0)
        * ∑ d, (if a < d then (1 : ℝ) else 0) * ∑ j, (if d = b j then (1 : ℝ) else 0) * w j k)
      = ∑ j, if c < b j then w j k else 0 := fun k => by
    rw [pick (fun a => ∑ d, (if a < d then (1 : ℝ) else 0) * ∑ j, (if d = b j then (1 : ℝ) else 0) * w j k) c]
    simp only [Finset.mul_sum]
    rw [Finset.sum_comm]
    refine Finset.sum_congr rfl fun j _ => ?_
    simp
  simp only [h1]
  simp

/-- The contribution of the bins up to `c`, from the subjects gathered by bin. -/
theorem upToBin_eq (g : Fin n → ℝ) (c : Fin 128) :
    ∑ k, (if k ≤ c then (1 : ℝ) else 0) * ∑ j, (if k = b j then (1 : ℝ) else 0) * g j
      = ∑ j, if b j ≤ c then g j else 0 := by
  simp only [Finset.mul_sum]
  rw [Finset.sum_comm]
  refine Finset.sum_congr rfl fun j _ => ?_
  simp

/-! ## The loss -/

/-- The small constant that keeps the logarithm's argument away from zero. -/
abbrev eps : EReal := Ideal.ofBits .f32 0x33D6BF95#32

/-- Subject `i`'s negative log likelihood: of the mass of its bin if it had its event, of the mass from the bin on if not. -/
def nll (ev : Fin n → Prop) [DecidablePred ev] (i : Fin n) : EReal :=
  if ev i then -Ideal.log ((p i (b i) : ℝ) + eps) else -Ideal.log ((tail p i (b i) : ℝ) + eps)

/-- How many subjects have a later time than `i`. -/
def later (i : Fin n) : ℕ := (Finset.univ.filter fun j => T i < T j).card

/-- Subject `i` counts in the ranking: it had its event, and some subject's time is later. -/
def counted (ev : Fin n → Prop) (i : Fin n) : Prop := ev i ∧ 0 < later T i

instance (ev : Fin n → Prop) [DecidablePred ev] : DecidablePred (counted T ev) := fun _ => instDecidableAnd

/-- Subject `i`'s ranking term, averaged over the later subjects. -/
def ranking (ev : Fin n → Prop) [DecidablePred ev] (i : Fin n) : EReal :=
  if counted T ev i then Ideal.div (pairSum p T b s i : ℝ) ((max (later T i) 1 : ℕ) : ℝ) else 0

/-- The loss: the mean negative log likelihood, plus half the mean ranking term over the counted subjects, where more than
    one event occurred and some subject counts. -/
def loss (ev : Fin 4096 → Prop) [DecidablePred ev] (p : Fin 4096 → Fin 128 → ℝ) (T : Fin 4096 → EReal)
    (b : Fin 4096 → Fin 128) (s : ℝ) : EReal :=
  Ideal.div (∑ i, nll p b ev i) (Ideal.ofBits .f32 0x45800000#32)
    + if 1 < (Finset.univ.filter ev).card ∧ 0 < (Finset.univ.filter (counted T ev)).card then
        Ideal.div (Ideal.ofBits .f32 0x3F000000#32 * ∑ i, ranking p T b s ev i)
          ((max (Finset.univ.filter (counted T ev)).card 1 : ℕ) : ℝ)
      else 0

end Cert.Ranking

end
-- ==== Proof.Words.lean ====
/- The machine words and constants of the two programs as real numbers: comparison bits and small integers converted
   to floats, counts of bits, the float literals, and finite sums of reals inside the extended reals. -/
module

public import proofs.«01_k».proof.KernelIdeal
public import Idealize.ShloMosaic.Lib.Pointwise
public import Idealize.ShloMosaic.Lib.IndicatorCount
public import Idealize.ShloMosaic.PureOps.Ideal.Laws

@[expose] public section

noncomputable section

namespace Cert.Words

open Idealize.ShloMosaic

/-- The reciprocal of the reference's smoothing width, the value 13421773 / 2²⁷ of its literal. -/
abbrev invSigma : ℝ := 134217728 / 13421773

theorem named_inv : Named.named (F := Ideal) (φ := .f32) Cert.KernelIdeal.κ "inv_sigma" 0x41200000#32 = ((invSigma : ℝ) : EReal) :=
  IdealRules.named_const.ideal_named_scalar _ _ _ _ rfl

theorem named_neg : Named.named (F := Ideal) (φ := .f32) Cert.KernelIdeal.κ "neg_inv_sigma" 0xC1200000#32 = ((-invSigma : ℝ) : EReal) := by
  have h : Named.named (F := Ideal) (φ := .f32) Cert.KernelIdeal.κ "neg_inv_sigma" 0xC1200000#32 = ((-134217728 / 13421773 : ℝ) : EReal) :=
    IdealRules.named_const.ideal_named_scalar _ _ _ _ rfl
  rw [h]
  norm_num [invSigma]

theorem lit_127 : Ideal.ofBits .f32 0x42FE0000#32 = ((127 : ℝ) : EReal) := by
  simp [Ideal.ofBits, Ideal.ieee, -EReal.coe_mul]; norm_num

theorem lit_4096 : Ideal.ofBits .f32 0x45800000#32 = ((4096 : ℝ) : EReal) := by
  simp [Ideal.ofBits, Ideal.ieee, -EReal.coe_mul]; norm_num

theorem lit_sigma : Ideal.ofBits .f32 0x3DCCCCCD#32 = ((13421773 / 134217728 : ℝ) : EReal) := by
  simp [Ideal.ofBits, Ideal.ieee, -EReal.coe_mul]; norm_num

theorem lit_inf : Ideal.ofBits .f32 0x7F800000#32 = ⊤ := by
  simp [Ideal.ofBits, Ideal.ieee]

/-- A finite sum of reals is the same sum of extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem bit_cases (b : BitVec 1) : b = 0#1 ∨ b = 1#1 := BitVec.eq_zero_or_eq_one b

/-- A bit widened and converted to a float is 1 or 0. -/
theorem bit_float (b : BitVec 1) :
    FloatOps.sitofp (F := Ideal) .f32 (b.setWidth 32) = (((if b = 1#1 then 1 else 0 : ℝ) : ℝ) : EReal) := by
  show (((b.setWidth 32).toInt : ℝ) : EReal) = _
  rcases bit_cases b with rfl | rfl <;> simp

theorem ofBool_eq_one (q : Prop) [Decidable q] : BitVec.ofBool (decide q) = 1#1 ↔ q := by
  by_cases h : q <;> simp [h]

/-- The bit of a comparison, as a float. -/
theorem bool_float (q : Prop) [Decidable q] :
    FloatOps.sitofp (F := Ideal) .f32 ((BitVec.ofBool (decide q)).setWidth 32) = (((if q then 1 else 0 : ℝ) : ℝ) : EReal) := by
  rw [bit_float]; simp only [ofBool_eq_one]

theorem toInt_small {a : ℕ} (h : a < 2 ^ 31) : (BitVec.ofNat 32 a).toInt = (a : ℤ) := by
  rw [BitVec.toInt_eq_toNat_of_lt] <;> simp only [BitVec.toNat_ofNat] <;> omega

/-- A small natural number as a word, converted to a float. -/
theorem nat_float {a : ℕ} (h : a < 2 ^ 31) : FloatOps.sitofp (F := Ideal) .f32 (BitVec.ofNat 32 a) = (((a : ℕ) : ℝ) : EReal) := by
  show (((BitVec.ofNat 32 a).toInt : ℝ) : EReal) = _
  rw [toInt_small h]; simp

theorem cmp_sle {a b : ℕ} (ha : a < 2 ^ 31) (hb : b < 2 ^ 31) :
    IntOp.cmpi .sle (BitVec.ofNat 32 a) (BitVec.ofNat 32 b) = BitVec.ofBool (decide (a ≤ b)) := by
  simp [IntOp.cmpi, BitVec.sle, toInt_small ha, toInt_small hb]

theorem cmp_sge {a b : ℕ} (ha : a < 2 ^ 31) (hb : b < 2 ^ 31) :
    IntOp.cmpi .sge (BitVec.ofNat 32 a) (BitVec.ofNat 32 b) = BitVec.ofBool (decide (b ≤ a)) := by
  simp [IntOp.cmpi, BitVec.sle, toInt_small ha, toInt_small hb]

theorem cmp_sgt {a b : ℕ} (ha : a < 2 ^ 31) (hb : b < 2 ^ 31) :
    IntOp.cmpi .sgt (BitVec.ofNat 32 a) (BitVec.ofNat 32 b) = BitVec.ofBool (decide (b < a)) := by
  simp [IntOp.cmpi, BitVec.slt, toInt_small ha, toInt_small hb]

theorem cmp_slt {a b : ℕ} (ha : a < 2 ^ 31) (hb : b < 2 ^ 31) :
    IntOp.cmpi .slt (BitVec.ofNat 32 a) (BitVec.ofNat 32 b) = BitVec.ofBool (decide (a < b)) := by
  simp [IntOp.cmpi, BitVec.slt, toInt_small ha, toInt_small hb]

/-- A sum of comparison bits is the word of their count. -/
theorem count_bits {ι : Type} [Fintype ι] (q : ι → Prop) [DecidablePred q] :
    Finset.fold IntOp.addi (0#32) (fun k => (BitVec.ofBool (decide (q k))).setWidth 32) Finset.univ
      = BitVec.ofNat 32 (Finset.univ.filter q).card := by
  rw [IndicatorCount.fold_addi_setWidth_eq_card]
  simp only [ofBool_eq_one]

/-- The conjunction of two comparison bits. -/
theorem andi_bits (q r : Prop) [Decidable q] [Decidable r] :
    IntOp.andi (BitVec.ofBool (decide q)) (BitVec.ofBool (decide r)) = BitVec.ofBool (decide (q ∧ r)) := by
  by_cases hq : q <;> by_cases hr : r <;> simp [hq, hr, IntOp.andi]

/-- A selection by a comparison bit. -/
theorem select_bit {α : Type} (q : Prop) [Decidable q] (x y : α) :
    Scalar.select (BitVec.ofBool (decide q)) x y = if q then x else y := by
  by_cases hq : q <;> simp [hq, Scalar.select]

/-- The sum of reals 1 and 0 over an indicator is a count. -/
theorem sum_indicator {ι : Type} [Fintype ι] (q : ι → Prop) [DecidablePred q] :
    ∑ k, (((if q k then 1 else 0 : ℝ) : ℝ) : EReal) = ((((Finset.univ.filter q).card : ℕ) : ℝ) : EReal) := by
  rw [← coe_sum]; simp

end Cert.Words

end
-- ==== Proof.Stage.lean ====
/- What each value that the kernel computes is, read at an index, where the probabilities are reals: at the first grid
   point the per-subject factors, the first part of the loss and the number of events; at every point the
   ranking term of the rows of its block. -/
module

public import proofs.«01_k».proof.Proof.Ranking
public import proofs.«01_k».proof.Proof.Words
public import proofs.«01_k».proof.Proof.Gen.KernelIdeal.Skeleton
public import Idealize.ShloMosaic.Lib.Pointwise

@[expose] public section

set_option maxRecDepth 16384

noncomputable section

namespace Cert.KernelIdeal.Stage

open Idealize.ShloMosaic Cert.KernelIdeal Cert.KernelIdeal.Gen Cert.Ranking Cert.Words

/-! ## The first grid point -/

section First

variable {p : Fin 4096 → Fin 128 → ℝ} {T : Fin 4096 → EReal} {E : Fin 4096 → BitVec 32}
  {x0 : Vec Ideal S4096x128 .f32} {x1 : Vec Ideal S4096x1 .f32} {x2 : Vec Ideal S1x4096 .f32} {x3 : Vec Ideal S4096x1 .i32}
  (h0 : ∀ i c, x0 (ix2 i c) = ((p i c : ℝ) : EReal)) (h1 : ∀ i, x1 (ix2 i 0) = T i) (h2 : ∀ j, x2 (ix2 0 j) = T j)
  (h3 : ∀ i, x3 (ix2 i 0) = E i)

/-- The bins of the subjects. -/
abbrev bins (T : Fin 4096 → EReal) (i : Fin 4096) : Fin 128 := binOf (T i)

theorem upper_apply (a c : Fin 128) :
    k0_pay4 (F := Ideal) (ix2 a c) = (((if a < c then 1 else 0 : ℝ) : ℝ) : EReal) := by
  pointwise [k0_pay4]
  rw [cmp_sgt (by omega) (by omega), bool_float]
  simp only [Fin.lt_def]

include h0 in
/-- The product with the upper triangle accumulates the distribution. -/
theorem cdf_apply (i : Fin 4096) (c : Fin 128) : k0_pay5 x0 (ix2 i c) = ((cdf p i c : ℝ) : EReal) := by
  pointwise [k0_pay5]
  rw [cdf, coe_sum]
  refine Finset.sum_congr rfl fun k _ => ?_
  rw [cmp_sle (by omega) (by omega), bool_float, h0, ← EReal.coe_mul, mul_ite, mul_one, mul_zero]
  simp only [Fin.le_def]

include h0 in
/-- The same, transposed. -/
theorem cdfT_apply (c : Fin 128) (i : Fin 4096) : k0_pay6 x0 (ix2 c i) = ((cdf p i c : ℝ) : EReal) := by
  pointwise [k0_pay6]
  rw [cdf, coe_sum]
  refine Finset.sum_congr rfl fun k _ => ?_
  rw [cmp_sge (by omega) (by omega), bool_float, h0, ← EReal.coe_mul, ite_mul, one_mul, zero_mul]
  simp only [Fin.le_def]

/-- The bin computed with a ceiling. -/
theorem bin_float (t : EReal) :
    min (Ideal.ofBits .f32 0x42FE0000#32) (max 0 (Ideal.liftRound Int.ceil t - 1)) = (((binOf t : ℕ) : ℝ) : EReal) := by
  rw [lit_127, clip_ceil]

theorem natCast_eq_iff (a c : Fin 128) : ((((a : ℕ) : ℝ) : EReal) = (((c : ℕ) : ℝ) : EReal)) ↔ a = c := by
  rw [EReal.coe_eq_coe_iff, Nat.cast_inj, Fin.ext_iff]

theorem natCast_le_iff (a c : Fin 128) : ((((a : ℕ) : ℝ) : EReal) ≤ (((c : ℕ) : ℝ) : EReal)) ↔ a ≤ c := by
  rw [EReal.coe_le_coe_iff, Nat.cast_le, Fin.le_def]

include h1 in
theorem bin_apply (i : Fin 4096) : k0_pay7 x1 (ix2 i 0) = (((bins T i : ℕ) : ℝ) : EReal) := by
  pointwise [k0_pay7]
  rw [bin_float, h1]

theorem lane_apply (i : Fin 4096) (c : Fin 128) : k0_pay8 (F := Ideal) (ix2 i c) = (((c : ℕ) : ℝ) : EReal) := by
  pointwise [k0_pay8]
  rw [nat_float (by omega)]

include h1 in
/-- The one-hot row of a subject's bin. -/
theorem hot_apply (i : Fin 4096) (c : Fin 128) :
    k0_pay9 x1 (ix2 i c) = (((if c = bins T i then 1 else 0 : ℝ) : ℝ) : EReal) := by
  pointwise [k0_pay9]
  rw [bin_apply h1, lane_apply, bool_float]
  simp only [natCast_eq_iff]

include h2 in
/-- The one-hot column of a subject's bin. -/
theorem hotT_apply (c : Fin 128) (j : Fin 4096) :
    k0_pay20 (k0_pay18 x2) k0_pay19 (ix2 c j) = (((if c = bins T j then 1 else 0 : ℝ) : ℝ) : EReal) := by
  pointwise [k0_pay20, k0_pay19, k0_pay18]
  rw [bin_float, nat_float (by omega), bool_float, h2]
  simp only [natCast_eq_iff]

include h0 h1 in
theorem mass_apply (i : Fin 4096) : k0_pay10 x0 x1 (ix2 i 0) = ((p i (bins T i) : ℝ) : EReal) := by
  pointwise [k0_pay10]
  simp only [hot_apply h1, h0, ← EReal.coe_mul, ← coe_sum, pick]

include h0 h1 in
theorem diag_apply (i : Fin 4096) : k0_pay11 x0 x1 (ix2 i 0) = ((cdf p i (bins T i) : ℝ) : EReal) := by
  pointwise [k0_pay11]
  simp only [hot_apply h1, cdf_apply h0, ← EReal.coe_mul, ← coe_sum, pick]

include h0 h1 in
theorem surv_apply (i : Fin 4096) : k0_pay12 x0 x1 (ix2 i 0) = ((tail p i (bins T i) : ℝ) : EReal) := by
  pointwise [k0_pay12]
  rw [cdf_apply h0, diag_apply h0 h1, mass_apply h0 h1, ← EReal.coe_sub, ← EReal.coe_add, tail_eq]

include h0 h1 in
/-- The factor that divides a subject's sum by its own exponential. -/
theorem ed_apply (i : Fin 4096) :
    k0_pay13 x0 x1 (ix2 i 0) = ((Real.exp (cdf p i (bins T i) * -invSigma) : ℝ) : EReal) := by
  pointwise [k0_pay13]
  rw [diag_apply h0 h1, named_neg, ← EReal.coe_mul, Ideal.exp_coe]

include h0 h1 in
theorem gcol_apply (i : Fin 4096) :
    k0_pay14 (k0_pay11 x0 x1) (Named.named κ "inv_sigma" 0x41200000#32) (ix2 i 0)
      = ((Real.exp (cdf p i (bins T i) * invSigma) : ℝ) : EReal) := by
  pointwise [k0_pay14]
  rw [diag_apply h0 h1, named_inv, ← EReal.coe_mul, Ideal.exp_coe]

include h0 h2 in
/-- Every subject's exponential at its own bin, as a row. -/
theorem grow_apply (j : Fin 4096) :
    k0_pay21 (k0_pay6 x0) (k0_pay18 x2) k0_pay19 (ix2 0 j) = ((Real.exp (cdf p j (bins T j) * invSigma) : ℝ) : EReal) := by
  pointwise [k0_pay21]
  simp only [hotT_apply h2, cdfT_apply h0, ← EReal.coe_mul, ← coe_sum, pick]
  rw [named_inv, ← EReal.coe_mul, Ideal.exp_coe]

include h0 h1 h2 in
/-- The sum over bins that a subject's ranking term is taken from. -/
theorem base_apply (i : Fin 4096) :
    k0_pay22 k0_pay4 (k0_pay5 x0) (k0_pay7 x1) k0_pay8 (k0_pay9 x1)
        (k0_pay14 (k0_pay11 x0 x1) (Named.named κ "inv_sigma" 0x41200000#32)) (k0_pay18 x2) k0_pay19 (ix2 i 0)
      = ((laterBins p (bins T) invSigma (bins T i) + upToBin p (bins T) invSigma (bins T i) : ℝ) : EReal) := by
  pointwise [k0_pay22]
  simp only [gcol_apply h0 h1]
  simp only [hotT_apply h2, hot_apply h1, cdf_apply h0, upper_apply, lane_apply, bin_apply h1, natCast_le_iff,
    bool_float, named_inv, ← EReal.coe_mul, Ideal.exp_coe, ← coe_sum, ← EReal.coe_add]
  rw [laterBins_eq (bins T) (fun j c => Real.exp (cdf p j c * invSigma)),
    upToBin_eq (bins T) (fun j => Real.exp (cdf p j (bins T j) * invSigma))]
  rfl

include h3 in
/-- The sum of the negative log likelihoods. -/
theorem nll_apply (hE : ∀ i, E i = 0#32 ∨ E i = 1#32) (h0 : ∀ i c, x0 (ix2 i c) = ((p i c : ℝ) : EReal))
    (h1 : ∀ i, x1 (ix2 i 0) = T i) :
    k0_pay16 (k0_pay10 x0 x1) (k0_pay12 x0 x1) x3 (ix2 0 0) = ∑ i, nll p (bins T) (fun i => E i = 1#32) i := by
  pointwise [k0_pay16, k0_pay15]
  refine Finset.sum_congr rfl fun i _ => ?_
  rw [mass_apply h0 h1, surv_apply h0 h1, h3, nll, zero_sub, zero_sub]
  have e : (FloatOps.sitofp (F := Ideal) .f32 (E i) = 1) ↔ E i = 1#32 := by
    show (((E i).toInt : ℝ) : EReal) = 1 ↔ _
    rcases hE i with h | h <;> rw [h] <;> simp
  simp only [e]

include h3 in
/-- The number of events. -/
theorem events_apply (hE : ∀ i, E i = 0#32 ∨ E i = 1#32) :
    k0_pay17 (F := Ideal) x3 (ix2 0 0) = ((((Finset.univ.filter fun i => E i = 1#32).card : ℕ) : ℝ) : EReal) := by
  pointwise [k0_pay17, k0_pay15]
  rw [← sum_indicator]
  refine Finset.sum_congr rfl fun i _ => ?_
  rw [h3]
  show (((E i).toInt : ℝ) : EReal) = _
  rcases hE i with h | h <;> rw [h] <;> simp

end First

/-! ## One block of rows -/

section Block

variable {p : Fin 4096 → Fin 128 → ℝ} {T : Fin 4096 → EReal} {E : Fin 4096 → BitVec 32} (row : Fin 1024 → Fin 4096)
  {y1 : Vec Ideal S1024x1 .f32} {x2 : Vec Ideal S1x4096 .f32} {y3 : Vec Ideal S1024x1 .i32}
  {grow : Vec Ideal S1x4096 .f32} {base ed : Vec Ideal S1024x1 .f32}
  (h1 : ∀ r, y1 (ix2 r 0) = T (row r)) (h2 : ∀ j, x2 (ix2 0 j) = T j) (h3 : ∀ r, y3 (ix2 r 0) = E (row r))
  (hg : ∀ j, grow (ix2 0 j) = ((Real.exp (cdf p j (bins T j) * invSigma) : ℝ) : EReal))
  (hb : ∀ r, base (ix2 r 0)
    = ((laterBins p (bins T) invSigma (bins T (row r)) + upToBin p (bins T) invSigma (bins T (row r)) : ℝ) : EReal))
  (he : ∀ r, ed (ix2 r 0) = ((Real.exp (cdf p (row r) (bins T (row r)) * -invSigma) : ℝ) : EReal))

include h1 h2 hg hb he in
/-- The ranking term of a row, before it is averaged. -/
theorem pair_apply (r : Fin 1024) :
    k0_pay27 y1 x2 grow base ed (ix2 r 0) = ((pairSum p T (bins T) invSigma (row r) : ℝ) : EReal) := by
  pointwise [k0_pay27, k0_pay26]
  have e : ∀ j, (if x2 (ix2 0 j) ≤ y1 (ix2 r 0) then grow (ix2 0 j) else 0)
      = (((if T j ≤ T (row r) then Real.exp (cdf p j (bins T j) * invSigma) else 0 : ℝ) : ℝ) : EReal) := fun j => by
    rw [h1, h2, hg]; split <;> rfl
  simp only [e, hb, he, ← coe_sum, ← EReal.coe_sub, ← EReal.coe_mul]
  rw [← pairSum_eq p T (bins T) invSigma (fun i j h => binOf_mono h) (row r)]
  rfl

/-- Counting the subjects that are later through those that are not. -/
theorem later_eq (T : Fin 4096 → EReal) (i : Fin 4096) :
    (Finset.univ.filter fun j => T j ≤ T i).card + later T i = 4096 := by
  have h := Finset.card_filter_add_card_filter_not (s := (Finset.univ : Finset (Fin 4096))) (fun j => T j ≤ T i)
  simpa [later, not_le] using h

include h1 h2 in
theorem later_apply (r : Fin 1024) : k0_pay28 y1 x2 (ix2 r 0) = (((later T (row r) : ℕ) : ℝ) : EReal) := by
  pointwise [k0_pay28, k0_pay26]
  simp only [h1, h2]
  have h := later_eq T (row r)
  rw [count_bits, nat_float (by omega), lit_4096, ← EReal.coe_sub]
  congr 1
  have h' : (((Finset.univ.filter fun j => T j ≤ T (row r)).card + later T (row r) : ℕ) : ℝ) = ((4096 : ℕ) : ℝ) :=
    congrArg Nat.cast h
  push_cast at h'
  linarith

include h1 h2 h3 in
theorem counted_apply (r : Fin 1024) :
    k0_pay29 y1 x2 y3 (ix2 r 0) = BitVec.ofBool (decide (counted T (fun i => E i = 1#32) (row r))) := by
  pointwise [k0_pay29]
  rw [later_apply row h1 h2, h3]
  have e : IntOp.cmpi .eq (E (row r)) 1#32 = BitVec.ofBool (decide (E (row r) = 1#32)) := by
    rw [IntOp.cmpi]; congr 1
  have z : ((0 : EReal) < (((later T (row r) : ℕ) : ℝ) : EReal)) ↔ 0 < later T (row r) := by
    rw [← EReal.coe_zero, EReal.coe_lt_coe_iff, Nat.cast_pos]
  rw [e, andi_bits]
  simp only [z]
  rfl

include h1 h2 h3 hg hb he in
/-- What a block adds to the ranking sum. -/
theorem rank_step (a : Vec Ideal S1x1 .f32) :
    k0_pay1 (k0_pay27 y1 x2 grow base ed) (k0_pay28 y1 x2) (k0_pay29 y1 x2 y3) k0_pay30 a (ix2 0 0)
      = a (ix2 0 0) + ∑ r, ranking p T (bins T) invSigma (fun i => E i = 1#32) (row r) := by
  pointwise [k0_pay1, k0_pay30]
  congr 1
  refine Finset.sum_congr rfl fun r _ => ?_
  rw [pair_apply row h1 h2 hg hb he, later_apply row h1 h2, counted_apply row h1 h2 h3, select_bit, ranking]
  congr 2
  rw [← EReal.coe_one, ← EReal.coe_strictMono.monotone.map_max, Nat.cast_max, Nat.cast_one]

include h1 h2 h3 in
/-- What a block adds to the number of counted subjects. -/
theorem count_step (a : Vec Ideal S1x1 .f32) :
    k0_pay2 (k0_pay29 y1 x2 y3) a (ix2 0 0)
      = a (ix2 0 0) + ∑ r, (((if counted T (fun i => E i = 1#32) (row r) then 1 else 0 : ℝ) : ℝ) : EReal) := by
  pointwise [k0_pay2]
  congr 1
  refine Finset.sum_congr rfl fun r _ => ?_
  rw [counted_apply row h1 h2 h3, bool_float]

end Block

/-! ## The last grid point -/

/-- The result, from the four accumulated numbers. -/
theorem result_apply {T : Fin 4096 → EReal} {p : Fin 4096 → Fin 128 → ℝ} {ev : Fin 4096 → Prop} [DecidablePred ev]
    {n r e l : Vec Ideal S1x1 .f32}
    (hn : n (ix2 0 0) = ((((Finset.univ.filter (counted T ev)).card : ℕ) : ℝ) : EReal))
    (hr : r (ix2 0 0) = ∑ i, ranking p T (bins T) invSigma ev i)
    (he : e (ix2 0 0) = ((((Finset.univ.filter ev).card : ℕ) : ℝ) : EReal))
    (hl : l (ix2 0 0) = ∑ i, nll p (bins T) ev i) :
    k0_pay3 n r e l (ix2 0 0) = loss ev p T (bins T) invSigma := by
  pointwise [k0_pay3]
  rw [hn, hr, he, hl, andi_bits, select_bit, loss]
  have z (k : ℕ) : ((0 : EReal) < ((k : ℝ) : EReal)) ↔ 0 < k := by
    rw [← EReal.coe_zero, EReal.coe_lt_coe_iff, Nat.cast_pos]
  have o (k : ℕ) : ((1 : EReal) < ((k : ℝ) : EReal)) ↔ 1 < k := by
    rw [← EReal.coe_one, EReal.coe_lt_coe_iff, Nat.one_lt_cast]
  simp only [z, o]
  congr 3
  rw [← EReal.coe_one, ← EReal.coe_strictMono.monotone.map_max, Nat.cast_max, Nat.cast_one]

end Cert.KernelIdeal.Stage

end
-- ==== Proof.Points.lean ====
module

public import proofs.«01_k».proof.Proof.Stage
public import proofs.«01_k».proof.Proof.Gen.KernelIdeal.Value
public import Idealize.ShloMosaic.Lib.Pipeline.Value

@[expose] public section

set_option maxRecDepth 16384

noncomputable section

namespace Cert.KernelIdeal.Points

open Idealize.ShloMosaic Idealize.ShloMosaic.TcCoe Idealize.SL.Sem Cert.KernelIdeal Cert.KernelIdeal.Gen

variable {F : FTy → Type} [FloatOps F] [Named F]

theorem hz : (![0, 0] : Fin 2 → Nat) = fun _ => 0 := funext fun a => by fin_cases a <;> rfl

/-- A load of what earlier stores left is a load of their canonical contents. -/
theorem readCov_ld {κ : Kind} {sp : Space} {s : Shape} {e : EltTy} (v : View sig κ sp s e)
    (L : List (View.Piece (Elt F) s e)) (r : Rect s) : v.readCov L r.toLoadRect = View.ld (View.canon L) r :=
  View.readCov_eq_canon' v L _

/-- The rows of a column that a grid point works on. -/
def rowsOf {e : EltTy} (i : grid0.Coords) (x : Vec F S4096x1 e) : Vec F S1024x1 e :=
  View.ld x (Rect.unit (s := S4096x1) (k0_off1 i) S1024x1.size (k0_off1_inb i))

/-- The row of exponentials, from the probabilities and the times. -/
def growOf (x0 : Vec F S4096x128 .f32) (x2 : Vec F S1x4096 .f32) : Vec F S1x4096 .f32 :=
  k0_pay21 (k0_pay6 x0) (k0_pay18 x2) k0_pay19

/-- The sums over bins, from the probabilities and the times. -/
def baseOf (x0 : Vec F S4096x128 .f32) (x1 : Vec F S4096x1 .f32) (x2 : Vec F S1x4096 .f32) : Vec F S4096x1 .f32 :=
  k0_pay22 k0_pay4 (k0_pay5 x0) (k0_pay7 x1) k0_pay8 (k0_pay9 x1)
    (k0_pay14 (k0_pay11 x0 x1) (Named.named κ "inv_sigma" 0x41200000#32)) (k0_pay18 x2) k0_pay19

/-- The ranking sum after a point, from what it was before. -/
def rankStep (i : grid0.Coords) (x1 : Vec F S4096x1 .f32) (x2 : Vec F S1x4096 .f32) (x3 : Vec F S4096x1 .i32)
    (grow : Vec F S1x4096 .f32) (base ed : Vec F S4096x1 .f32) (a : Vec F S1x1 .f32) : Vec F S1x1 .f32 :=
  k0_pay1 (k0_pay27 (rowsOf i x1) x2 grow (rowsOf i base) (rowsOf i ed)) (k0_pay28 (rowsOf i x1) x2)
    (k0_pay29 (rowsOf i x1) x2 (rowsOf i x3)) k0_pay30 a

/-- The count after a point, from what it was before. -/
def countStep (i : grid0.Coords) (x1 : Vec F S4096x1 .f32) (x2 : Vec F S1x4096 .f32) (x3 : Vec F S4096x1 .i32)
    (a : Vec F S1x1 .f32) : Vec F S1x1 .f32 :=
  k0_pay2 (k0_pay29 (rowsOf i x1) x2 (rowsOf i x3)) a

section Cases

variable (c : Dev nD) (i : grid0.Coords)
  (a1 : Memref sig .tc .vmem S4096x128 .f32) (w1 : a1.IsWhole)
  (a2 : Memref sig .tc .vmem S4096x1 .f32) (w2 : a2.IsWhole)
  (a3 : Memref sig .tc .vmem S1x4096 .f32) (w3 : a3.IsWhole)
  (a4 : Memref sig .tc .vmem S4096x1 .i32) (w4 : a4.IsWhole)
  (a5 : Memref sig .tc .vmem S1x128 .f32) (w5 : a5.IsWhole)
  (a6 : Memref sig .tc .vmem S128x1 .f32) (w6 : a6.IsWhole)
  (a7 : Memref sig .tc .vmem S1x1 .f32) (w7 : a7.IsWhole)
  (a8 : Memref sig .tc .vmem S1x4096 .f32) (w8 : a8.IsWhole)
  (a9 : Memref sig .tc .vmem S4096x1 .f32) (w9 : a9.IsWhole)
  (a10 : Memref sig .tc .vmem S4096x1 .f32) (w10 : a10.IsWhole)
  (a11 : Memref sig .tc .vmem S1x1 .f32) (w11 : a11.IsWhole)
  (a12 : Memref sig .tc .vmem S1x1 .f32) (w12 : a12.IsWhole)
  (a13 : Memref sig .tc .vmem S1x1 .f32) (w13 : a13.IsWhole)
  (a14 : Memref sig .tc .vmem S1x1 .f32) (w14 : a14.IsWhole)
  (x0 : Vec F S4096x128 .f32)
  (x1 : Vec F S4096x1 .f32)
  (x2 : Vec F S1x4096 .f32)
  (x3 : Vec F S4096x1 .i32)
  (x4 : Vec F S1x128 .f32)
  (x5 : Vec F S128x1 .f32)
  (s0 : Vec F S1x4096 .f32)
  (s1 : Vec F S4096x1 .f32)
  (s2 : Vec F S4096x1 .f32)
  (s3 : Vec F S1x1 .f32)
  (s4 : Vec F S1x1 .f32)
  (s5 : Vec F S1x1 .f32)
  (s6 : Vec F S1x1 .f32)

/-- The first point leaves the exponentials as a row. -/
theorem first_0 (hc0 : cond0_0 i) (hc1 : ¬cond0_1 i) :
    sout0_A_0 c i a1 w1 a2 w2 a3 w3 a4 w4 a5 w5 a6 w6 a7 w7 a8 w8 a9 w9 a10 w10 a11 w11 a12 w12 a13 w13 a14 w14 hc0 hc1 x0 x1 x2 x3 x4 x5
      = growOf x0 x2 := by
  unfold sout0_A_0
  rw [View.read_writes_eq_canon _ _ _ (scover0_A_0 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point leaves the dividing factors. -/
theorem first_1 (hc0 : cond0_0 i) (hc1 : ¬cond0_1 i) :
    sout0_A_1 c i a1 w1 a2 w2 a3 w3 a4 w4 a5 w5 a6 w6 a7 w7 a8 w8 a9 w9 a10 w10 a11 w11 a12 w12 a13 w13 a14 w14 hc0 hc1 x0 x1 x2 x3 x4 x5
      = k0_pay13 x0 x1 := by
  unfold sout0_A_1
  rw [View.read_writes_eq_canon _ _ _ (scover0_A_1 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point leaves the sums over bins. -/
theorem first_2 (hc0 : cond0_0 i) (hc1 : ¬cond0_1 i) :
    sout0_A_2 c i a1 w1 a2 w2 a3 w3 a4 w4 a5 w5 a6 w6 a7 w7 a8 w8 a9 w9 a10 w10 a11 w11 a12 w12 a13 w13 a14 w14 hc0 hc1 x0 x1 x2 x3 x4 x5
      = baseOf x0 x1 x2 := by
  unfold sout0_A_2
  rw [View.read_writes_eq_canon _ _ _ (scover0_A_2 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point leaves the sum of the negative log likelihoods. -/
theorem first_3 (hc0 : cond0_0 i) (hc1 : ¬cond0_1 i) :
    sout0_A_3 c i a1 w1 a2 w2 a3 w3 a4 w4 a5 w5 a6 w6 a7 w7 a8 w8 a9 w9 a10 w10 a11 w11 a12 w12 a13 w13 a14 w14 hc0 hc1 x0 x1 x2 x3 x4 x5
      = k0_pay16 (k0_pay10 x0 x1) (k0_pay12 x0 x1) x3 := by
  unfold sout0_A_3
  rw [View.read_writes_eq_canon _ _ _ (scover0_A_3 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point starts the ranking sum with its own block. -/
theorem first_4 (hc0 : cond0_0 i) (hc1 : ¬cond0_1 i) :
    sout0_A_4 c i a1 w1 a2 w2 a3 w3 a4 w4 a5 w5 a6 w6 a7 w7 a8 w8 a9 w9 a10 w10 a11 w11 a12 w12 a13 w13 a14 w14 hc0 hc1 x0 x1 x2 x3 x4 x5
      = rankStep i x1 x2 x3 (growOf x0 x2) (baseOf x0 x1 x2) (k0_pay13 x0 x1) k0_pay25 := by
  unfold sout0_A_4
  rw [View.read_writes_eq_canon _ _ _ (scover0_A_4 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point starts the count with its own block. -/
theorem first_5 (hc0 : cond0_0 i) (hc1 : ¬cond0_1 i) :
    sout0_A_5 c i a1 w1 a2 w2 a3 w3 a4 w4 a5 w5 a6 w6 a7 w7 a8 w8 a9 w9 a10 w10 a11 w11 a12 w12 a13 w13 a14 w14 hc0 hc1 x0 x1 x2 x3 x4 x5
      = countStep i x1 x2 x3 k0_pay25 := by
  unfold sout0_A_5
  rw [View.read_writes_eq_canon _ _ _ (scover0_A_5 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The first point leaves the number of events. -/
theorem first_6 (hc0 : cond0_0 i) (hc1 : ¬cond0_1 i) :
    sout0_A_6 c i a1 w1 a2 w2 a3 w3 a4 w4 a5 w5 a6 w6 a7 w7 a8 w8 a9 w9 a10 w10 a11 w11 a12 w12 a13 w13 a14 w14 hc0 hc1 x0 x1 x2 x3 x4 x5
      = k0_pay17 x3 := by
  unfold sout0_A_6
  rw [View.read_writes_eq_canon _ _ _ (scover0_A_6 c i a1 w1 a2 w2 a3 w3 a4 w4 a5 w5 a6 w6 a7 w7 a8 w8 a9 w9 a10 w10 a11 w11 a12 w12 a13 w13 a14 w14 hc0 hc1 x0 x1 x2 x3 x4 x5)]
  unfold kernelRun0_A
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- A middle point adds its block to the ranking sum. -/
theorem middle_4 (hc0 : ¬cond0_0 i) (hc1 : ¬cond0_1 i) :
    sout0_B_4 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6
      = rankStep i x1 x2 x3 s0 s2 s1 s4 := by
  unfold sout0_B_4
  rw [View.read_writes_eq_canon _ _ _ (scover0_B_4 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6)]
  unfold kernelRun0_B
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- A middle point adds its block to the count. -/
theorem middle_5 (hc0 : ¬cond0_0 i) (hc1 : ¬cond0_1 i) :
    sout0_B_5 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6
      = countStep i x1 x2 x3 s5 := by
  unfold sout0_B_5
  rw [View.read_writes_eq_canon _ _ _ (scover0_B_5 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6)]
  unfold kernelRun0_B
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

/-- The last point adds its block and writes the loss. -/
theorem last_6 (hc0 : ¬cond0_0 i) (hc1 : cond0_1 i) :
    out0_C_6 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6
      = k0_pay3 (countStep i x1 x2 x3 s5) (rankStep i x1 x2 x3 s0 s2 s1 s4) s6 s3 := by
  unfold out0_C_6
  rw [View.read_writes_eq_canon _ _ _ (cover0_C_6 c i a1 w1 a2 w2 a3 w3 a4 w4 a5 w5 a6 w6 a7 w7 a8 w8 a9 w9 a10 w10 a11 w11 a12 w12 a13 w13 a14 w14 hc0 hc1 x0 x1 x2 x3 x4 x5 s0 s1 s2 s3 s4 s5 s6)]
  unfold kernelRun0_C
  dsimp only
  sl_unfold_words
  rw [View.canon_cons_unit_zero hz]
  simp only [View.readAt_eq_ld, View.read_writes_junk_eq_canon, readCov_ld, View.canon_cons_unit_zero (S := S1x1) hz, View.canon_cons_unit_zero (S := S1x4096) hz,
    View.canon_cons_unit_zero (S := S4096x1) hz, w1.read_unread, w2.read_unread, w3.read_unread, w4.read_unread, w8.read_unread, w9.read_unread,
    w10.read_unread, w11.read_unread, w12.read_unread, w13.read_unread, w14.read_unread, View.ld_unit_zero (S := S1x1) hz,
    View.ld_unit_zero (S := S1x4096) hz, View.ld_unit_zero (S := S4096x1) hz, View.ld_unit_zero (S := S4096x128) hz]
  all_goals rfl

end Cases

end Cert.KernelIdeal.Points

end
-- ==== Proof.Inputs.lean ====
module

public import proofs.«01_k».proof.Proof.Points
public import Idealize.ShloMosaic.Lib.Pipeline.ValueKit
public import Idealize.ShloMosaic.Lib.Pointwise
public import Idealize.ShloMosaic.Lib.Claim

/-! # What the grid points read

Every input window is a whole array, fetched once: the probabilities, the times as a column and as a row,
and the events as a column. The three reshaped ones are read here at the caller's own arrays. A point's
rows of a column are the 1024 rows from 1024 times its coordinate on. -/

@[expose] public section

set_option maxRecDepth 16384

noncomputable section

namespace Cert.KernelIdeal.Inputs

open Idealize.ShloMosaic Idealize.ShloMosaic.TcCoe Idealize.SL.Sem Cert.KernelIdeal Cert.KernelIdeal.Gen

variable (m : (ℓ : Loc nD τ sig) → Buf (Elt Ideal) ℓ)

theorem index_eq : ∀ t : Fin cfg0.N, win0_0.index t = ![0, 0] ∧ win0_1.index t = ![0, 0] ∧ win0_2.index t = ![0, 0]
    ∧ win0_3.index t = ![0, 0] := by decide +kernel

/-- Window 0 is the probabilities. -/
theorem pmf_apply (c : Dev nD) (t : Fin cfg0.N) (i : Fin 4096) (k : Fin 128) :
    iblk m c 0 t (ix2 i k) = m ((c : Thread nD τ).loc main_arg0) (ix2 i k) := by
  blk_ext! [iblk, V, index_eq t]

/-- Window 1 is the times, as a column. -/
theorem column_apply (c : Dev nD) (t : Fin cfg0.N) (i : Fin 4096) :
    iblk m c 1 t (ix2 i 0) = m ((c : Thread nD τ).loc main_arg1) (ix1 i) := by
  blk_ext! [iblk, V, index_eq t]

/-- Window 2 is the times, as a row. -/
theorem row_apply (c : Dev nD) (t : Fin cfg0.N) (j : Fin 4096) :
    iblk m c 2 t (ix2 0 j) = m ((c : Thread nD τ).loc main_arg1) (ix1 j) := by
  blk_ext! [iblk, V, index_eq t]

/-- Window 3 is the events, as a column. -/
theorem events_apply (c : Dev nD) (t : Fin cfg0.N) (i : Fin 4096) :
    iblk m c 3 t (ix2 i 0) = m ((c : Thread nD τ).loc main_arg2) (ix1 i) := by
  blk_ext! [iblk, V, index_eq t]

/-- The row a grid point's row `r` is in the whole column. -/
def rowAt (t : Fin cfg0.N) (r : Fin 1024) : Fin 4096 :=
  ⟨1024 * t.val + r.val, by have := lt_of_lt_of_eq t.isLt (show cfg0.N = 4 from N_0); omega⟩

theorem offset_eq : ∀ t : Fin cfg0.N, k0_off1 (grid0.coords t) = ![1024 * t.val, 0] := by decide +kernel

/-- A point's rows of a column. -/
theorem rowsOf_apply {e : EltTy} (t : Fin cfg0.N) (x : Vec Ideal S4096x1 e) (r : Fin 1024) :
    Points.rowsOf (grid0.coords t) x (ix2 r 0) = x (ix2 (rowAt t r) 0) := by
  unfold Points.rowsOf rowAt
  pointwise
  blk_ext [offset_eq t]

end Cert.KernelIdeal.Inputs

end
-- ==== Proof.Grid.lean ====
module

public import proofs.«01_k».proof.Proof.Inputs

/-! # The grid, point by point

The first point leaves the exponentials, the dividing factors, the sums over bins, the sum of negative log
likelihoods and the number of events, and starts the ranking sum and the count of counted subjects with its own
1024 rows. Each later point adds its rows. The last point writes the loss. -/

@[expose] public section

set_option maxRecDepth 16384

noncomputable section

namespace Cert.KernelIdeal.Grid

open Idealize.ShloMosaic Idealize.ShloMosaic.TcCoe Idealize.SL.Sem Cert.KernelIdeal Cert.KernelIdeal.Gen
open Cert.Ranking Cert.Words Cert.KernelIdeal.Stage Cert.KernelIdeal.Inputs

/-- The sum over the rows of the first `n` points. -/
def part (f : Fin 4096 → EReal) (n : ℕ) : EReal := ∑ i with i.val < 1024 * n, f i

theorem part_zero (f : Fin 4096 → EReal) : part f 0 = 0 :=
  Finset.sum_eq_zero fun i hi => by simp at hi

/-- All four points' rows are all the rows. -/
theorem part_four (f : Fin 4096 → EReal) : part f 4 = ∑ i, f i := by
  unfold part
  rw [Finset.filter_true_of_mem fun i _ => by omega]

theorem rowAt_injective (t : Fin cfg0.N) : Function.Injective (rowAt t) := fun r r' h => by
  have := congrArg Fin.val h
  simp only [rowAt] at this
  exact Fin.ext (by omega)

/-- One more point's rows. -/
theorem part_succ (f : Fin 4096 → EReal) (t : Fin cfg0.N) : part f (t.val + 1) = part f t.val + ∑ r, f (rowAt t r) := by
  have ht := lt_of_lt_of_eq t.isLt (show cfg0.N = 4 from N_0)
  unfold part
  have e : (Finset.univ.filter fun i : Fin 4096 => i.val < 1024 * (t.val + 1))
      = (Finset.univ.filter fun i : Fin 4096 => i.val < 1024 * t.val) ∪ Finset.univ.map ⟨rowAt t, rowAt_injective t⟩ := by
    ext i
    simp only [Finset.mem_filter, Finset.mem_univ, true_and, Finset.mem_union, Finset.mem_map, Function.Embedding.coeFn_mk]
    refine ⟨fun h => ?_, ?_⟩
    · by_cases h' : i.val < 1024 * t.val
      · exact .inl h'
      · exact .inr ⟨⟨i.val - 1024 * t.val, by omega⟩, Fin.ext (by simp only [rowAt]; omega)⟩
    · rintro (h | ⟨r, rfl⟩)
      · omega
      · simp only [rowAt]; omega
  rw [e, Finset.sum_union, Finset.sum_map]
  · rfl
  · refine Finset.disjoint_left.mpr fun i hi hr => ?_
    obtain ⟨r, -, rfl⟩ := Finset.mem_map.mp hr
    have := (Finset.mem_filter.mp hi).2
    simp only [Function.Embedding.coeFn_mk, rowAt] at this
    omega

variable (m : (ℓ : Loc nD τ sig) → Buf (Elt Ideal) ℓ) (c : Dev nD)

/-- The times. -/
def times (i : Fin 4096) : EReal := m ((c : Thread nD τ).loc main_arg1) (ix1 i)

/-- Which events occurred. -/
def occurred (i : Fin 4096) : Prop := (m ((c : Thread nD τ).loc main_arg2) (ix1 i) : BitVec 32) = 1#32

instance : DecidablePred (occurred m c) := fun _ => inferInstanceAs (Decidable (_ = _))

variable (p : Fin 4096 → Fin 128 → ℝ)

/-- What the scratch buffers hold after `n` points. -/
structure Held (n : ℕ) (o : Vec Ideal S1x1 .f32 × Vec Ideal S1x4096 .f32 × Vec Ideal S4096x1 .f32 × Vec Ideal S4096x1 .f32
    × Vec Ideal S1x1 .f32 × Vec Ideal S1x1 .f32 × Vec Ideal S1x1 .f32 × Vec Ideal S1x1 .f32) : Prop where
  grow : ∀ j, o.2.1 (ix2 0 j) = ((Real.exp (cdf p j (bins (times m c) j) * invSigma) : ℝ) : EReal)
  factor : ∀ i, o.2.2.1 (ix2 i 0) = ((Real.exp (cdf p i (bins (times m c) i) * -invSigma) : ℝ) : EReal)
  base : ∀ i, o.2.2.2.1 (ix2 i 0) = ((laterBins p (bins (times m c)) invSigma (bins (times m c) i)
    + upToBin p (bins (times m c)) invSigma (bins (times m c) i) : ℝ) : EReal)
  loglik : o.2.2.2.2.1 (ix2 0 0) = ∑ i, nll p (bins (times m c)) (occurred m c) i
  rank : o.2.2.2.2.2.1 (ix2 0 0) = part (ranking p (times m c) (bins (times m c)) invSigma (occurred m c)) n
  count : o.2.2.2.2.2.2.1 (ix2 0 0)
    = part (fun i => (((if counted (times m c) (occurred m c) i then 1 else 0 : ℝ) : ℝ) : EReal)) n
  events : o.2.2.2.2.2.2.2 (ix2 0 0) = ((((Finset.univ.filter (occurred m c)).card : ℕ) : ℝ) : EReal)

variable (hp : ∀ i k, m ((c : Thread nD τ).loc main_arg0) (ix2 i k) = ((p i k : ℝ) : EReal))
  (hE : ∀ i : Fin 4096, (m ((c : Thread nD τ).loc main_arg2) (ix1 i) : BitVec 32) = 0#32
    ∨ (m ((c : Thread nD τ).loc main_arg2) (ix1 i) : BitVec 32) = 1#32)

/-- A point's rows added to the ranking sum. -/
theorem rankStep_apply (t : Fin cfg0.N) {grow : Vec Ideal S1x4096 .f32} {base ed : Vec Ideal S4096x1 .f32}
    (hg : ∀ j, grow (ix2 0 j) = ((Real.exp (cdf p j (bins (times m c) j) * invSigma) : ℝ) : EReal))
    (hb : ∀ i, base (ix2 i 0) = ((laterBins p (bins (times m c)) invSigma (bins (times m c) i)
      + upToBin p (bins (times m c)) invSigma (bins (times m c) i) : ℝ) : EReal))
    (he : ∀ i, ed (ix2 i 0) = ((Real.exp (cdf p i (bins (times m c) i) * -invSigma) : ℝ) : EReal))
    {a : Vec Ideal S1x1 .f32}
    (ha : a (ix2 0 0) = part (ranking p (times m c) (bins (times m c)) invSigma (occurred m c)) t.val) :
    Points.rankStep (grid0.coords t) (iblk m c 1 t) (iblk m c 2 t) (iblk m c 3 t) grow base ed a (ix2 0 0)
      = part (ranking p (times m c) (bins (times m c)) invSigma (occurred m c)) (t.val + 1) := by
  rw [part_succ, ← ha]
  exact rank_step (T := times m c) (E := fun i => m ((c : Thread nD τ).loc main_arg2) (ix1 i)) (rowAt t)
    (fun r => (rowsOf_apply t _ r).trans (column_apply m c t _)) (row_apply m c t)
    (fun r => (rowsOf_apply t _ r).trans (events_apply m c t _)) hg
    (fun r => (rowsOf_apply t _ r).trans (hb _)) (fun r => (rowsOf_apply t _ r).trans (he _)) a

/-- A point's rows added to the count. -/
theorem countStep_apply (t : Fin cfg0.N) {a : Vec Ideal S1x1 .f32}
    (ha : a (ix2 0 0) = part (fun i => (((if counted (times m c) (occurred m c) i then 1 else 0 : ℝ) : ℝ) : EReal)) t.val) :
    Points.countStep (grid0.coords t) (iblk m c 1 t) (iblk m c 2 t) (iblk m c 3 t) a (ix2 0 0)
      = part (fun i => (((if counted (times m c) (occurred m c) i then 1 else 0 : ℝ) : ℝ) : EReal)) (t.val + 1) := by
  rw [part_succ, ← ha]
  exact count_step (T := times m c) (E := fun i => m ((c : Thread nD τ).loc main_arg2) (ix1 i)) (rowAt t)
    (fun r => (rowsOf_apply t _ r).trans (column_apply m c t _)) (row_apply m c t)
    (fun r => (rowsOf_apply t _ r).trans (events_apply m c t _)) a

theorem zero_apply : k0_pay25 (F := Ideal) (ix2 0 0) = 0 := by
  unfold_payloads
  pointwise

include hp hE

theorem held_first (t : Fin cfg0.N) (h0 : t.val % 4 = 0) (h1 : ¬t.val % 4 = 3) (hz : t.val = 0) :
    Held m c p (t.val + 1) (outsAt0 m c t.val t.isLt) := by
  have q0 : ∀ i k, iblk m c 0 t (ix2 i k) = ((p i k : ℝ) : EReal) := fun i k => (pmf_apply m c t i k).trans (hp i k)
  have q1 : ∀ i, iblk m c 1 t (ix2 i 0) = times m c i := column_apply m c t
  have q2 : ∀ j, iblk m c 2 t (ix2 0 j) = times m c j := row_apply m c t
  have q3 : ∀ i : Fin 4096, iblk m c 3 t (ix2 i 0) = m ((c : Thread nD τ).loc main_arg2) (ix1 i) := events_apply m c t
  have g := grow_apply q0 q2
  have b := base_apply q0 q1 q2
  have d := ed_apply q0 q1
  rw [outsAt0_A m c t h0 h1]
  refine ⟨?_, ?_, ?_, ?_, ?_, ?_, ?_⟩ <;> dsimp only
  · rw [Points.first_0]; exact g
  · rw [Points.first_1]; exact d
  · rw [Points.first_2]; exact b
  · rw [Points.first_3]; exact nll_apply q3 hE q0 q1
  · rw [Points.first_4]; exact rankStep_apply m c p t g b d (by rw [zero_apply, hz, part_zero])
  · rw [Points.first_5]; exact countStep_apply m c t (by rw [zero_apply, hz, part_zero])
  · rw [Points.first_6]; exact events_apply q3 hE

omit hp hE in
theorem held_next (t : Fin cfg0.N) (h0 : ¬t.val % 4 = 0) (h1 : ¬t.val % 4 = 3)
    (h : Held m c p t.val (outsAt0 m c (t.val - 1) (Nat.lt_of_le_of_lt (Nat.sub_le _ _) t.isLt))) :
    Held m c p (t.val + 1) (outsAt0 m c t.val t.isLt) := by
  rw [outsAt0_B m c t h0 h1]
  refine ⟨h.grow, h.factor, h.base, h.loglik, ?_, ?_, h.events⟩ <;> dsimp only
  · rw [Points.middle_4]; exact rankStep_apply m c p t h.grow h.base h.factor h.rank
  · rw [Points.middle_5]; exact countStep_apply m c t h.count

/-- What the first three points leave. -/
theorem held : ∀ (n : ℕ) (hn : n < cfg0.N), n < 3 → Held m c p (n + 1) (outsAt0 m c n hn)
  | 0, hn, _ => held_first m c p hp hE ⟨0, hn⟩ rfl (by decide : ¬0 % 4 = 3) rfl
  | n + 1, hn, h => held_next m c p ⟨n + 1, hn⟩ (by show ¬(n + 1) % 4 = 0; omega) (by show ¬(n + 1) % 4 = 3; omega)
      (held n (Nat.lt_of_succ_lt hn) (by omega))

/-- The last point writes the loss. -/
theorem written (t : Fin cfg0.N) (ht : t.val = 3) :
    (outsAt0 m c t.val t.isLt).1 (ix2 0 0) = loss (occurred m c) p (times m c) (bins (times m c)) invSigma := by
  have h : Held m c p t.val (outsAt0 m c (t.val - 1) (Nat.lt_of_le_of_lt (Nat.sub_le _ _) t.isLt)) := by
    obtain ⟨n, hn⟩ := t
    obtain rfl : n = 3 := ht
    exact held m c p hp hE 2 (Nat.lt_of_succ_lt hn) (by decide)
  rw [outsAt0_C m c t (by omega) (by omega)]
  dsimp only
  rw [Points.last_6]
  refine result_apply ?_ ?_ h.events h.loglik
  · rw [countStep_apply m c t h.count, ht, part_four, sum_indicator]
  · rw [rankStep_apply m c p t h.grow h.base h.factor h.rank, ht, part_four]

/-- The kernel's result is the loss. -/
theorem result_eq (i : S1x1.Idx) :
    Value.G6 m c i = loss (occurred m c) p (times m c) (bins (times m c)) invSigma := by
  obtain rfl : i = ix2 0 0 := by
    funext a; fin_cases a <;> exact Subsingleton.elim (α := Fin 1) _ _
  have hN : 3 < cfg0.N := lt_of_lt_of_eq (by decide) N_0.symm
  rw [Value.G6_last, ← Value.outsAt0_sweep m c 3 hN]
  exact written m c p hp hE ⟨3, hN⟩ rfl

end Cert.KernelIdeal.Grid

end
-- ==== Proof.HostOps.lean ====
module

public import proofs.«01_k».proof.Proof.Words
public import proofs.«01_k».proof.Proof.Gen.ReferenceIdeal
public import Idealize.ShloMosaic.Lib.Pointwise

/-! # The reference's running sums and look-ups, read at an index -/

@[expose] public section

set_option maxRecDepth 16384

noncomputable section

namespace Cert.HostOps

open Idealize.ShloMosaic Cert.ReferenceIdeal Cert.ReferenceIdeal.Gen Cert.Words

theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- The sum of a shifted window, padded below, is a running sum. -/
theorem window_sum (f : Fin 128 → EReal) (j : Fin 128) :
    ∑ b : Fin 128, (if h : 127 ≤ j.val + b.val then f ⟨j.val + b.val - 127, by omega⟩ else 0)
      = ∑ k : Fin 128, if k ≤ j then f k else 0 := by
  rw [← Finset.sum_filter]
  rw [← Finset.sum_filter_of_ne (p := fun b : Fin 128 => 127 ≤ j.val + b.val) fun b _ hb => by
    by_contra h; exact hb (dif_neg h)]
  refine Finset.sum_nbij' (fun b => ⟨j.val + b.val - 127, by omega⟩) (fun k => ⟨min 127 (k.val + 127 - j.val), by omega⟩)
    ?_ ?_ ?_ ?_ ?_
  · intro b hb
    simp only [Finset.mem_filter, Finset.mem_univ, true_and, Fin.le_def] at hb ⊢
    omega
  · intro k hk
    simp only [Finset.mem_filter, Finset.mem_univ, true_and, Fin.le_def] at hk ⊢
    omega
  · intro b hb
    simp only [Finset.mem_filter, Finset.mem_univ, true_and] at hb
    exact Fin.ext (by simp only; omega)
  · intro k hk
    simp only [Finset.mem_filter, Finset.mem_univ, true_and, Fin.le_def] at hk
    exact Fin.ext (by simp only; omega)
  · intro b hb
    exact dif_pos (Finset.mem_filter.mp hb).2

/-- The running sum along a row. -/
theorem cumsum_apply (x : FVec Ideal S4096x128 .f32) (init : S_.Idx → Ideal .f32)
    (h : S4096x128.ReduceWindows ![1, 128] ![1, 1] ![0, 127] ![0, 0] S4096x128) (hu : 0 < S_.numel)
    (h0 : init (Shape.Idx.first hu) = (0 : EReal)) (i : Fin 4096) (j : Fin 128) :
    Host.reduceWindowAdd (φ := .f32) ![1, 128] ![1, 1] ![0, 127] ![0, 0] x init h hu (ix2 i j)
      = (∑ k : Fin 128, if k ≤ j then (x (ix2 i k) : EReal) else 0 : EReal) := by
  show Host.reduceWindow (fun a b : EReal => a + b) ![1, 128] ![1, 1] ![0, 127] ![0, 0] x
    (fun _ : (⟨0, ![]⟩ : Shape).Idx => init (Shape.Idx.first hu)) h (by decide) (ix2 i j) = _
  unfold Host.reduceWindow
  dsimp only
  rw [foldl_add, h0, zero_add, ← List.ofFn_eq_map, List.sum_ofFn, ← window_sum]
  refine (Fintype.sum_equiv (Shape.rowMajor (⟨2, ![1, 128]⟩ : Shape)).symm _
    (fun y => if h : 127 ≤ j.val + (y 1).val then (x (ix2 i ⟨j.val + (y 1).val - 127, by have := (y 1).isLt; change _ < 128 at this; omega⟩) : EReal) else 0)
    fun n => ?_).trans ?_
  · have ha : ((Shape.rowMajor (⟨2, ![1, 128]⟩ : Shape)).symm n 0).val = 0 := by
      have := ((Shape.rowMajor (⟨2, ![1, 128]⟩ : Shape)).symm n 0).isLt
      change _ < 1 at this
      omega
    by_cases hb : 127 ≤ j.val + ((Shape.rowMajor (⟨2, ![1, 128]⟩ : Shape)).symm n 1).val
    · refine (dif_pos fun c => ?_).trans (Eq.trans ?_ (dif_pos hb).symm)
      · match c with
        | ⟨0, _⟩ =>
          show 0 ≤ i.val * 1 + ((Shape.rowMajor (⟨2, ![1, 128]⟩ : Shape)).symm n 0).val ∧ i.val * 1 + ((Shape.rowMajor (⟨2, ![1, 128]⟩ : Shape)).symm n 0).val - 0 < 4096
          omega
        | ⟨1, _⟩ =>
          show 127 ≤ j.val * 1 + ((Shape.rowMajor (⟨2, ![1, 128]⟩ : Shape)).symm n 1).val ∧ j.val * 1 + ((Shape.rowMajor (⟨2, ![1, 128]⟩ : Shape)).symm n 1).val - 127 < 128
          have := ((Shape.rowMajor (⟨2, ![1, 128]⟩ : Shape)).symm n 1).isLt
          change _ < 128 at this
          omega
      · refine congrArg x (funext fun c => Fin.ext ?_)
        match c with
        | ⟨0, _⟩ => show i.val * 1 + ((Shape.rowMajor (⟨2, ![1, 128]⟩ : Shape)).symm n 0).val - 0 = i.val; omega
        | ⟨1, _⟩ =>
          show j.val * 1 + ((Shape.rowMajor (⟨2, ![1, 128]⟩ : Shape)).symm n 1).val - 127 = j.val + ((Shape.rowMajor (⟨2, ![1, 128]⟩ : Shape)).symm n 1).val - 127
          omega
    · refine (dif_neg fun hc => hb ?_).trans (Eq.trans ?_ (dif_neg hb).symm)
      swap
      · rfl
      have := (hc 1).1
      change 127 ≤ j.val * 1 + ((Shape.rowMajor (⟨2, ![1, 128]⟩ : Shape)).symm n 1).val at this
      omega
  · rw [sum_idx2, Fin.sum_univ_one]
    rfl

/-- A look-up of one entry of each row. -/
theorem lookup_apply {α : Type} (x : S4096x128.Idx → α) (idx : IVec S4096x1x1 32) (i : Fin 4096) (b : Fin 128)
    (hb : idx (ix3 i 0 0) = BitVec.ofNat 32 b.val) :
    Host.gather gather_S4096x128_S4096x1x1_S4096x1_n_1_0_0_1_2_11 x idx (ix2 i 0) = x (ix2 i b) := by
  unfold Host.gather
  refine congrArg x (funext fun a => Fin.ext ?_)
  match a with
  | ⟨0, _⟩ => show 0 + i.val + 0 = i.val; omega
  | ⟨1, _⟩ =>
    show min (idx _).toInt.toNat 127 + 0 + 0 = b.val
    rw [show (GatherDims.siIdx _ _ _ : S4096x1x1.Idx) = ix3 i 0 0 from by funext a; match a with | ⟨0, _⟩ => rfl | ⟨1, _⟩ => rfl | ⟨2, _⟩ => rfl,
      hb, toInt_small (by omega)]
    simp only [Int.toNat_natCast]
    omega

/-- A look-up of one column per subject. -/
theorem columns_apply {α : Type} (x : S4096x128.Idx → α) (idx : IVec S4096x1 32) (j i : Fin 4096) (b : Fin 128)
    (hb : idx (ix2 i 0) = BitVec.ofNat 32 b.val) :
    Host.gather gather_S4096x128_S4096x1_S4096x4096_0_1_n_n_1_1_40961 x idx (ix2 j i) = x (ix2 j b) := by
  unfold Host.gather
  refine congrArg x (funext fun a => Fin.ext ?_)
  match a with
  | ⟨0, _⟩ => show 0 + 0 + j.val = j.val; omega
  | ⟨1, _⟩ =>
    show min (idx _).toInt.toNat 127 + 0 + 0 = b.val
    rw [show (GatherDims.siIdx _ _ _ : S4096x1.Idx) = ix2 i 0 from by funext a; match a with | ⟨0, _⟩ => rfl | ⟨1, _⟩ => rfl,
      hb, toInt_small (by omega)]
    simp only [Int.toNat_natCast]
    omega

end Cert.HostOps

end
-- ==== Proof.RefLookups.lean ====
module

public import proofs.«01_k».proof.Proof.Ranking
public import proofs.«01_k».proof.Proof.HostOps
public import proofs.«01_k».proof.Proof.Gen.ReferenceIdeal.Read

/-! # The reference's bins, running sums and look-ups

Where the bin edges are 0, 1, …, 127, the reference's bin of a subject is `binOf` of its time. Its tables of running
sums, from the left and from the right, are the cumulative distribution and the mass from a bin on. A look-up of a
table at the subject's own bin is in range, so it reads the entry. -/

@[expose] public section

set_option maxRecDepth 16384

noncomputable section

namespace Cert.RefLookups

open Idealize.ShloMosaic Cert.ReferenceIdeal Cert.ReferenceIdeal.Gen Cert.ReferenceIdeal.Read
open Cert.Words Cert.Ranking Cert.HostOps

/-! ## The bin's word -/

/-- A number of edges less one, clipped to 0 … 127. -/
theorem clip_word : ∀ n : Fin 129, IntOp.minsi 127#32 (IntOp.maxsi 0#32 (IntOp.subi (BitVec.ofNat 32 n.val) 1#32))
    = BitVec.ofNat 32 (n.val - 1) := by decide +kernel

/-- A bin is not negative, so it is not wrapped. -/
theorem wrap_word : ∀ b : Fin 128, Scalar.select (IntOp.cmpi .slt (BitVec.ofNat 32 b.val) 0#32)
    (IntOp.addi (BitVec.ofNat 32 b.val) 128#32) (BitVec.ofNat 32 b.val) = BitVec.ofNat 32 b.val := by decide +kernel

/-- A bin is in range. -/
theorem range_word : ∀ b : Fin 128, IntOp.andi (IntOp.cmpi .sge (BitVec.ofNat 32 b.val) 0#32)
    (IntOp.cmpi .sle (BitVec.ofNat 32 b.val) 127#32) = 1#1 := by decide +kernel

variable (x0 : FVec Ideal S4096x128 .f32) (x1 : FVec Ideal S4096 .f32) (x2 : IVec S4096 32) (x3 : FVec Ideal S128 .f32)

/-- Subject `i`'s bin. -/
abbrev bin (i : Fin 4096) : Fin 128 := binOf (x1 (ix1 i))

variable (hx3 : ∀ k : Fin 128, x3 (ix1 k) = (((k : ℕ) : ℝ) : EReal))
include hx3

theorem below_word (i : Fin 4096) : val_main_v6 (F := Ideal) x1 x3 (ix1 i) = BitVec.ofNat 32 (below (x1 (ix1 i))) := by
  refine Eq.trans ?_ (count_bits fun k : Fin 128 => (((k : ℕ) : ℝ) : EReal) < x1 (ix1 i))
  pointwise [val_main_v6, val_main_v5, val_main_v4, val_main_v3, val_main_v2, val_main_v1, val_main_v0, val_main_c]
  simp only [hx3]

theorem bin_word (i : Fin 4096) : val_main_v9 (F := Ideal) x1 x3 (ix1 i) = BitVec.ofNat 32 (bin x1 i).val := by
  refine Eq.trans ?_ (clip_word ⟨below (x1 (ix1 i)), by have := below_le (x1 (ix1 i)); omega⟩)
  pointwise [val_main_v9, val_main_call0_v4, val_main_call0_v3, val_main_c_2, val_main_call0_v2, val_main_call0_v1,
    val_main_call0_v0, val_main_c_1, val_main_v8, val_main_v7, val_main_c_0]
  rw [below_word x1 x3 hx3 i]
  rfl

theorem bin_index (i : Fin 4096) : val_main_call2_v5 (F := Ideal) x1 x3 (ix3 i 0 0) = BitVec.ofNat 32 (bin x1 i).val := by
  refine Eq.trans ?_ (wrap_word (bin x1 i))
  pointwise [val_main_call2_v5, val_main_call2_v4, val_main_call2_v3, val_main_call2_v2, val_main_call2_v1, val_main_call2_v0,
    val_main_call2_c, val_main_call2_c_0, val_main_v13]
  rw [bin_word x1 x3 hx3 i]

theorem bin_mask (i : Fin 4096) : val_main_call2_v12 (F := Ideal) x1 x3 (ix2 i 0) = 1#1 := by
  pointwise [val_main_call2_v12, val_main_call2_v11, val_main_call2_v10, val_main_call2_v9, val_main_call2_v8, val_main_call2_v7,
    val_main_call2_v6, val_main_call2_c_1, val_main_call2_c_2, val_main_call2_c_3]
  rw [Finset.univ_unique, Finset.fold_singleton]
  show IntOp.andi (IntOp.andi (IntOp.cmpi .sge (val_main_call2_v5 (F := Ideal) x1 x3 (ix3 i 0 0)) 0#32)
    (IntOp.cmpi .sle (val_main_call2_v5 (F := Ideal) x1 x3 (ix3 i 0 0)) 127#32)) 1#1 = 1#1
  rw [bin_index x1 x3 hx3 i, range_word]
  rfl

theorem bin_column (i : Fin 4096) : val_main_v38 (F := Ideal) x1 x3 (ix2 i 0) = BitVec.ofNat 32 (bin x1 i).val := by
  refine Eq.trans ?_ (wrap_word (bin x1 i))
  pointwise [val_main_v38, val_main_v37, val_main_v36, val_main_v35, val_main_v34, val_main_v33, val_main_c_7, val_main_c_8]
  rw [bin_word x1 x3 hx3 i]

/-! ## The look-ups -/

/-- A table looked up at each subject's own bin. -/
theorem own_bin (x : FVec Ideal S4096x128 .f32) (z : FVec Ideal S4096x1 .f32) (i : Fin 4096) :
    select (val_main_call2_v12 (F := Ideal) x1 x3) (Host.gather gather_S4096x128_S4096x1x1_S4096x1_n_1_0_0_1_2_11 x (val_main_call2_v5 (F := Ideal) x1 x3)) z (ix2 i 0)
      = x (ix2 i (bin x1 i)) := by
  show Scalar.select (val_main_call2_v12 (F := Ideal) x1 x3 (ix2 i 0)) _ _ = _
  rw [bin_mask x1 x3 hx3 i, lookup_apply x _ i (bin x1 i) (bin_index x1 x3 hx3 i)]
  rfl

omit hx3 in
/-- Running sums from the left. -/
theorem left_sums (p : Fin 4096 → Fin 128 → ℝ) (hp : ∀ i k, x0 (ix2 i k) = ((p i k : ℝ) : EReal)) (i : Fin 4096) (c : Fin 128) :
    val_main_v32 (F := Ideal) x0 (ix2 i c) = ((cdf p i c : ℝ) : EReal) := by
  unfold val_main_v32
  rw [cumsum_apply, cdf, coe_sum]
  · refine Finset.sum_congr rfl fun k _ => ?_
    rw [hp]
    split <;> simp
  · pointwise [val_main_call5_call0_v0, val_main_call5_call0_cst]

omit hx3 in
/-- Running sums from the right. -/
theorem right_sums (p : Fin 4096 → Fin 128 → ℝ) (hp : ∀ i k, x0 (ix2 i k) = ((p i k : ℝ) : EReal)) (i : Fin 4096) (c : Fin 128) :
    val_main_v12 (F := Ideal) x0 (ix2 i c) = ((tail p i c : ℝ) : EReal) := by
  have e : val_main_v12 (F := Ideal) x0 (ix2 i c) = val_main_v11 (F := Ideal) x0 (ix2 i (Fin.rev c)) := by
    pointwise [val_main_v12]
    exact congrArg (fun q => val_main_v11 (F := Ideal) x0 (ix2 i q)) (if_pos (List.mem_singleton.2 rfl))
  rw [e]
  unfold val_main_v11
  rw [cumsum_apply, tail, coe_sum, ← Equiv.sum_comp Fin.revPerm]
  · refine Finset.sum_congr rfl fun k _ => ?_
    have h : val_main_v10 (F := Ideal) x0 (ix2 i (Fin.rev k)) = x0 (ix2 i k) := by
      pointwise [val_main_v10]
      exact congrArg (fun q => x0 (ix2 i q)) ((if_pos (List.mem_singleton.2 rfl)).trans (Fin.rev_rev k))
    rw [Fin.revPerm_apply, h, hp]
    simp only [Fin.rev_le_rev]
    split <;> simp
  · pointwise [val_main_call1_call0_v0, val_main_call1_call0_cst]

variable (p : Fin 4096 → Fin 128 → ℝ) (hp : ∀ i k, x0 (ix2 i k) = ((p i k : ℝ) : EReal))
include hp

theorem own_mass (i : Fin 4096) : val_main_v15 (F := Ideal) x0 x1 x3 (ix1 i) = ((p i (bin x1 i) : ℝ) : EReal) := by
  rw [← hp]
  refine Eq.trans ?_ (own_bin x1 x3 hx3 x0 (val_main_call2_v14 (F := Ideal)) i)
  pointwise [val_main_v15]
  rfl

theorem own_tail (i : Fin 4096) : val_main_v18 (F := Ideal) x0 x1 x3 (ix1 i) = ((tail p i (bin x1 i) : ℝ) : EReal) := by
  rw [← right_sums x0 p hp]
  refine Eq.trans ?_ (own_bin x1 x3 hx3 (val_main_v12 (F := Ideal) x0) (val_main_call2_v14 (F := Ideal)) i)
  pointwise [val_main_v18]
  rfl

theorem own_cdf (i : Fin 4096) : val_main_v42 (F := Ideal) x0 x1 x3 (ix1 i) = ((cdf p i (bin x1 i) : ℝ) : EReal) := by
  rw [← left_sums x0 p hp]
  refine Eq.trans ?_ (own_bin x1 x3 hx3 (val_main_v32 (F := Ideal) x0) (val_main_call2_v14 (F := Ideal)) i)
  pointwise [val_main_v42]
  rfl

/-- Every subject's distribution at every subject's bin. -/
theorem cross_cdf (j i : Fin 4096) : val_main_v39 (F := Ideal) x0 x1 x3 (ix2 j i) = ((cdf p j (bin x1 i) : ℝ) : EReal) := by
  rw [← left_sums x0 p hp]
  exact columns_apply _ _ j i (bin x1 i) (bin_column x1 x3 hx3 i)

end Cert.RefLookups

end
-- ==== Proof.RefValue.lean ====
module

public import proofs.«01_k».proof.Proof.RefLookups

/-! # The reference's loss

With the bins and the look-ups read, each subject's negative log likelihood, ranking term and counting bit are those of
`Ranking.lean`, and the reference's result is the loss. The counts stay below 2³¹, so their words are the counts. -/

@[expose] public section

set_option maxRecDepth 16384

noncomputable section

namespace Cert.RefValue

open Idealize.ShloMosaic Cert.ReferenceIdeal Cert.ReferenceIdeal.Gen Cert.ReferenceIdeal.Read
open Cert.Words Cert.Ranking Cert.RefLookups

variable (x0 : FVec Ideal S4096x128 .f32) (x1 : FVec Ideal S4096 .f32) (x2 : IVec S4096 32) (x3 : FVec Ideal S128 .f32)

/-- The subjects' times. -/
abbrev times (i : Fin 4096) : EReal := x1 (ix1 i)

/-- The subjects whose event occurred. -/
abbrev occurred (i : Fin 4096) : Prop := x2 (ix1 i) = 1#32

/-! ## Counts -/

theorem count_lt (q : Fin 4096 → Prop) [DecidablePred q] : (Finset.univ.filter q).card < 2 ^ 31 :=
  lt_of_le_of_lt (Finset.card_le_univ _) (by simp)

/-- The larger of a count and one. -/
theorem max_one {a : ℕ} (h : a < 2 ^ 31) : IntOp.maxsi (BitVec.ofNat 32 a) 1#32 = BitVec.ofNat 32 (max a 1) := by
  have h1 : (1#32 : BitVec 32).toInt = 1 := rfl
  rcases Nat.lt_or_ge 1 a with g | g
  · rw [max_eq_left g.le]
    simp only [IntOp.maxsi, BitVec.slt, BitVec.sle, toInt_small h, h1]
    exact if_pos (decide_eq_true (by omega))
  · rw [max_eq_right g]
    rcases Nat.le_one_iff_eq_zero_or_eq_one.1 g with rfl | rfl <;> rfl

theorem count_max_lt (q : Fin 4096 → Prop) [DecidablePred q] : max (Finset.univ.filter q).card 1 < 2 ^ 31 :=
  max_lt (count_lt q) (by norm_num)

theorem later_lt (T : Fin 4096 → EReal) (i : Fin 4096) : later T i < 2 ^ 31 := count_lt _

theorem eq_bit (a b : BitVec 32) : IntOp.cmpi .eq a b = BitVec.ofBool (decide (a = b)) := by
  simp only [IntOp.cmpi]
  congr 1

theorem later_word (i : Fin 4096) : val_main_v56 (F := Ideal) x1 (ix1 i) = BitVec.ofNat 32 (later (times x1) i) := by
  refine Eq.trans ?_ (count_bits fun j : Fin 4096 => times x1 i < times x1 j)
  pointwise [val_main_v56, val_main_v55, val_main_v47, val_main_v46, val_main_v45, val_main_v44, val_main_v43, val_main_c_10]

/-- The bit of a subject that counts. -/
theorem counted_bit (i : Fin 4096) :
    val_main_v63 (F := Ideal) x1 x2 (ix1 i) = BitVec.ofBool (decide (counted (times x1) (occurred x2) i)) := by
  refine Eq.trans ?_ (andi_bits (occurred x2 i) (0 < later (times x1) i))
  rw [← eq_bit, ← cmp_sgt (later_lt _ _) (by norm_num), ← later_word]
  pointwise [val_main_v63, val_main_v62, val_main_v61, val_main_v60, val_main_v59, val_main_c_13, val_main_c_14]

theorem counted_word (j : S_.Idx) :
    val_main_v70 (F := Ideal) x1 x2 j = BitVec.ofNat 32 (Finset.univ.filter (counted (times x1) (occurred x2))).card := by
  refine Eq.trans ?_ (count_bits (counted (times x1) (occurred x2)))
  pointwise [val_main_v70, val_main_v69, val_main_c_17]
  simp only [counted_bit]

theorem events_word (hE : ∀ i, x2 (ix1 i) = 0#32 ∨ x2 (ix1 i) = 1#32) (j : S_.Idx) :
    val_main_v72 (F := Ideal) x2 j = BitVec.ofNat 32 (Finset.univ.filter (occurred x2)).card := by
  refine Eq.trans ?_ (count_bits (occurred x2))
  pointwise [val_main_v72, val_main_c_19]
  refine congrArg (fun f => Finset.fold IntOp.addi 0#32 f Finset.univ) (funext fun i => ?_)
  rcases hE i with h | h <;> simp [occurred, h]

variable (hx3 : ∀ k : Fin 128, x3 (ix1 k) = (((k : ℕ) : ℝ) : EReal))
variable (p : Fin 4096 → Fin 128 → ℝ) (hp : ∀ i k, x0 (ix2 i k) = ((p i k : ℝ) : EReal))
include hx3 hp

/-! ## The likelihoods -/

theorem nll_apply (i : Fin 4096) :
    val_main_v29 (F := Ideal) x0 x1 x2 x3 (ix1 i) = nll p (bin x1) (occurred x2) i := by
  unfold nll
  rw [← select_bit, ← eq_bit, ← own_mass x0 x1 x3 hx3 p hp, ← own_tail x0 x1 x3 hx3 p hp]
  pointwise [val_main_v29, val_main_v28, val_main_v27, val_main_v26, val_main_v25, val_main_v24, val_main_v23, val_main_v22,
    val_main_v21, val_main_v20, val_main_v19, val_main_c_3, val_main_cst, val_main_cst_4]

/-! ## The ranking terms -/

theorem pair_apply (i j : Fin 4096) : val_main_v54 (F := Ideal) x0 x1 x3 (ix2 i j)
    = ((Real.exp ((cdf p j (bin x1 i) - cdf p i (bin x1 i)) * invSigma) : ℝ) : EReal) := by
  rw [← Ideal.exp_coe, EReal.coe_mul, EReal.coe_sub, ← cross_cdf x0 x1 x3 hx3 p hp, ← own_cdf x0 x1 x3 hx3 p hp]
  pointwise [val_main_v54, val_main_v53, val_main_v52, val_main_cst_9, val_main_v51, val_main_v50, val_main_v49, val_main_v48]
  rw [lit_sigma, Ideal.div_coe (by norm_num)]
  congr 3
  norm_num [invSigma]

theorem pairSum_apply (i : Fin 4096) :
    val_main_v58 (F := Ideal) x0 x1 x3 (ix1 i) = ((pairSum p (times x1) (bin x1) invSigma i : ℝ) : EReal) := by
  unfold pairSum
  rw [coe_sum]
  pointwise [val_main_v58, val_main_cst_12, val_main_v57, val_main_call7_v1, val_main_call7_v0, val_main_cst_11,
    val_main_v47, val_main_v46, val_main_v45, val_main_v44, val_main_v43]
  refine Finset.sum_congr rfl fun j _ => ?_
  rw [pair_apply x0 x1 x3 hx3 p hp]
  split
  · rfl
  · exact Ideal.ofBits_zero_f32

theorem ranking_apply (i : Fin 4096) : val_main_v68 (F := Ideal) x0 x1 x2 x3 (ix1 i)
    = ranking p (times x1) (bin x1) invSigma (occurred x2) i := by
  unfold ranking
  rw [← select_bit, ← counted_bit, ← pairSum_apply x0 x1 x3 hx3 p hp, ← nat_float (max_lt (later_lt _ _) (by norm_num)),
    ← max_one (later_lt _ _), ← later_word]
  pointwise [val_main_v68, val_main_v67, val_main_v66, val_main_v65, val_main_v64, val_main_c_15, val_main_call8_v1,
    val_main_call8_v0, val_main_cst_16]
  exact congrArg (Scalar.select _ _) Ideal.ofBits_zero_f32

/-! ## The loss -/

theorem result_eq (hE : ∀ i, x2 (ix1 i) = 0#32 ∨ x2 (ix1 i) = 1#32) (i : S1x1.Idx) :
    val_main_v82 (F := Ideal) x0 x1 x2 x3 i = loss (occurred x2) p (times x1) (bin x1) invSigma := by
  unfold loss
  simp only [← nll_apply x0 x1 x2 x3 hx3 p hp, ← ranking_apply x0 x1 x2 x3 hx3 p hp]
  rw [← select_bit, ← andi_bits, ← nat_float (count_max_lt _), ← cmp_sgt (count_lt _) (by norm_num), ← cmp_sgt (count_lt _) (by norm_num),
    ← max_one (count_lt _)]
  pointwise [val_main_v82, val_main_v81, val_main_v80, val_main_v79, val_main_v78, val_main_v77, val_main_v76, val_main_v75,
    val_main_v74, val_main_v73, val_main_v71, val_main_v31, val_main_v30, val_main_cst_5, val_main_cst_6, val_main_cst_18,
    val_main_c_20, val_main_c_21, val_main_c_23, val_main_cst_22, val_main_cst_24, val_main_call9_v0]
  rw [events_word x2 hE, counted_word]
  exact congrArg (fun z => _ + Scalar.select _ _ z) Ideal.ofBits_zero_f32

end Cert.RefValue

end
-- ==== Proof.Pre.lean ====
module

public import proofs.«01_k».proof.Proof.Words
public import proofs.«01_k».proof.Proof.Gen.Pre_drawn
public import Idealize.ShloMosaic.Lib.Pointwise
public import Idealize.ShloMosaic.Lib.ReduceAll

/-! # What the precondition says

Every probability is a real number, every event flag is 0 or 1, and the bin edges are 0, 1, …, 127. -/

@[expose] public section

set_option maxRecDepth 16384

noncomputable section

namespace Cert.Drawn

open Idealize.ShloMosaic Cert.Pre_drawn Cert.Words

instance : Subsingleton S_.Idx := ⟨fun _ _ => funext fun a => a.elim0⟩

variable {x0 : FVec Ideal S4096x128 .f32} {x1 : FVec Ideal S4096 .f32} {x2 : IVec S4096 32} {x3 : FVec Ideal S128 .f32}

theorem parts (h : fn (F := Ideal) x0 x1 x2 x3 = fun _ => 1#1) :
    (∀ i, cmpf .olt (Host.absf x0) (broadcastInDim S4096x128 ![] Facts.bcast_S_S4096x128 (constant (F := Ideal) S_ .f32 0x7F800000#32)) i = 1#1)
    ∧ (∀ i, ori (cmpi .eq x2 (broadcastInDim S4096 ![] Facts.bcast_S_S4096 (constantI S_ 32 0#32)))
        (cmpi .eq x2 (broadcastInDim S4096 ![] Facts.bcast_S_S4096 (constantI S_ 32 1#32))) i = 1#1)
    ∧ ∀ i, cmpf .oeq x3 (sitofp (F := Ideal) .f32 (iotaInDim S128 32 0)) i = 1#1 := by
  obtain ⟨h12, h3⟩ := IntOp.andi_eq_one.1 (congrFun h ix0)
  obtain ⟨h1, h2⟩ := IntOp.andi_eq_one.1 h12
  exact ⟨Host.reduce_andi_all _ _ _ _ _ h1, Host.reduce_andi_all _ _ _ _ _ h2, Host.reduce_andi_all _ _ _ _ _ h3⟩

theorem real (h : fn (F := Ideal) x0 x1 x2 x3 = fun _ => 1#1) (i : Fin 4096) (k : Fin 128) :
    x0 (ix2 i k) = (((x0 (ix2 i k) : EReal).toReal : ℝ) : EReal) := by
  have e := (parts h).1 (ix2 i k)
  have e' : BitVec.ofBool (decide (max (x0 (ix2 i k) : EReal) (-(x0 (ix2 i k))) < Ideal.ofBits .f32 0x7F800000#32)) = 1#1 := by
    rw [← e]; pointwise; rfl
  rw [ofBool_eq_one, lit_inf, max_lt_iff] at e'
  refine (EReal.coe_toReal e'.1.ne fun hb => ?_).symm
  rw [hb] at e'
  exact absurd e'.2 (by simp)

theorem events (h : fn (F := Ideal) x0 x1 x2 x3 = fun _ => 1#1) (i : Fin 4096) : x2 (ix1 i) = 0#32 ∨ x2 (ix1 i) = 1#32 := by
  have e := (parts h).2.1 (ix1 i)
  by_contra hn
  have n0 : (x2 (ix1 i) == 0#32) = false := beq_eq_false_iff_ne.2 fun g => hn (.inl g)
  have n1 : (x2 (ix1 i) == 1#32) = false := beq_eq_false_iff_ne.2 fun g => hn (.inr g)
  revert e
  pointwise
  simp [IntOp.cmpi, IntOp.ori, n0, n1]

theorem edges (h : fn (F := Ideal) x0 x1 x2 x3 = fun _ => 1#1) (k : Fin 128) : x3 (ix1 k) = (((k : ℕ) : ℝ) : EReal) := by
  have e := (parts h).2.2 (ix1 k)
  have e' : BitVec.ofBool (decide ((x3 (ix1 k) : EReal) = FloatOps.sitofp (F := Ideal) .f32 (BitVec.ofNat 32 k.val))) = 1#1 := by
    rw [← e]; pointwise
  rw [(ofBool_eq_one _).1 e', nat_float (by omega)]

end Cert.Drawn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Grid
public import proofs.«01_k».proof.Proof.RefValue
public import proofs.«01_k».proof.Proof.Pre

@[expose] public section

noncomputable section

namespace Cert.Proof

open Idealize.ShloMosaic Idealize.ShloMosaic.StableHlo Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "neg_inv_sigma" .f32 0xC1200000#32 _ rfl,
    IdealRules.named_const.statement Cert.KernelIdeal.κ "inv_sigma" .f32 0x41200000#32 _ rfl⟩

/-- Kernel and reference compute the same loss. -/
theorem algebraic : Cert.algebraic_KernelIdeal_ReferenceIdeal_pre_drawn := by
  intro m ρ m' ρ' hpre hagree
  refine ⟨fun c => Cert.KernelIdeal.Value.G6 m c, Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v82_eq (launchContents m' c)).trans ?_
  rw [show launchContents m' c (Proc.devRef .tc Cert.ReferenceIdeal.main_arg0) = _ from (hagree c).1,
    show launchContents m' c (Proc.devRef .tc Cert.ReferenceIdeal.main_arg1) = _ from (hagree c).2.1,
    show launchContents m' c (Proc.devRef .tc Cert.ReferenceIdeal.main_arg2) = _ from (hagree c).2.2.1,
    show launchContents m' c (Proc.devRef .tc Cert.ReferenceIdeal.main_arg3) = _ from (hagree c).2.2.2]
  funext i
  exact (Cert.RefValue.result_eq _ _ _ _ (Cert.Drawn.edges (hpre c)) _ (Cert.Drawn.real (hpre c)) (Cert.Drawn.events (hpre c)) i).trans
    (Cert.KernelIdeal.Grid.result_eq m c _ (Cert.Drawn.real (hpre c)) (Cert.Drawn.events (hpre c)) i).symm

theorem claim : Cert.Claim :=
  ⟨Cert.Kernel.Gen.facts, Cert.KernelIdeal.Gen.facts, Cert.ReferenceIdeal.Gen.facts, Cert.Pre_drawn.Gen.facts,
    frame_kernel, frame_ideal, fun m ρ _ => frame_ideal m ρ trivial, frame_reference, fun m ρ _ => frame_reference m ρ trivial,
    preserves, algebraic⟩

end Cert.Proof

end
